-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x768x6144 : Shape := ⟨3, ![12, 768, 6144]⟩
abbrev S3072x16384 : Shape := ⟨2, ![3072, 16384]⟩
abbrev S96x16384 : Shape := ⟨2, ![96, 16384]⟩
abbrev S7x6144x16 : Shape := ⟨3, ![7, 6144, 16]⟩
abbrev S7x16x16384 : Shape := ⟨3, ![7, 16, 16384]⟩
abbrev S12x768 : Shape := ⟨2, ![12, 768]⟩
abbrev S6144x7x16 : Shape := ⟨3, ![6144, 7, 16]⟩
abbrev S6144x112 : Shape := ⟨2, ![6144, 112]⟩
abbrev S_ : Shape := ⟨0, ![]⟩
abbrev S6144x128 : Shape := ⟨2, ![6144, 128]⟩
abbrev S6144x256 : Shape := ⟨2, ![6144, 256]⟩
abbrev S112x16384 : Shape := ⟨2, ![112, 16384]⟩
abbrev S9216x1 : Shape := ⟨2, ![9216, 1]⟩
abbrev S9216x6144 : Shape := ⟨2, ![9216, 6144]⟩
abbrev S9216x16384 : Shape := ⟨2, ![9216, 16384]⟩
abbrev S512x6144 : Shape := ⟨2, ![512, 6144]⟩
abbrev S192x1024 : Shape := ⟨2, ![192, 1024]⟩
abbrev S96x1024 : Shape := ⟨2, ![96, 1024]⟩
abbrev S112x1024 : Shape := ⟨2, ![112, 1024]⟩
abbrev S512x1 : Shape := ⟨2, ![512, 1]⟩
abbrev S512x1024 : Shape := ⟨2, ![512, 1024]⟩
abbrev S2x6144x1024 : Shape := ⟨3, ![2, 6144, 1024]⟩
abbrev S2x256x1024 : Shape := ⟨3, ![2, 256, 1024]⟩
abbrev S9216x256 : Shape := ⟨2, ![9216, 256]⟩
abbrev S512x256 : Shape := ⟨2, ![512, 256]⟩
abbrev S1x6144x1024 : Shape := ⟨3, ![1, 6144, 1024]⟩
abbrev S6144x1024 : Shape := ⟨2, ![6144, 1024]⟩
abbrev S1x256x1024 : Shape := ⟨3, ![1, 256, 1024]⟩
abbrev S256x1024 : Shape := ⟨2, ![256, 1024]⟩
abbrev S1x1024 : Shape := ⟨2, ![1, 1024]⟩
abbrev S32x1024 : Shape := ⟨2, ![32, 1024]⟩
abbrev S64x1024 : Shape := ⟨2, ![64, 1024]⟩
abbrev S1x64x1024 : Shape := ⟨3, ![1, 64, 1024]⟩
abbrev S16x1024 : Shape := ⟨2, ![16, 1024]⟩

abbrev nBuf : Space → Nat
  | .hbm => 16
  | .vmem => 16
  | .smem => 0
  | _ => 0

abbrev bufTy : (tb : Table) → Fin (tcTables nBuf tb) → BufTy
  | .hbm, ⟨0, _⟩ => ⟨S12x768x6144, .bf16⟩
  | .hbm, ⟨1, _⟩ => ⟨S3072x16384, .i8⟩
  | .hbm, ⟨2, _⟩ => ⟨S96x16384, .f32⟩
  | .hbm, ⟨3, _⟩ => ⟨S7x6144x16, .bf16⟩
  | .hbm, ⟨4, _⟩ => ⟨S7x16x16384, .bf16⟩
  | .hbm, ⟨5, _⟩ => ⟨S12x768, .i32⟩
  | .hbm, ⟨6, _⟩ => ⟨S6144x7x16, .bf16⟩
  | .hbm, ⟨7, _⟩ => ⟨S6144x112, .bf16⟩
  | .hbm, ⟨8, _⟩ => ⟨S_, .i32⟩
  | .hbm, ⟨9, _⟩ => ⟨S_, .bf16⟩
  | .hbm, ⟨10, _⟩ => ⟨S6144x128, .bf16⟩
  | .hbm, ⟨11, _⟩ => ⟨S6144x256, .bf16⟩
  | .hbm, ⟨12, _⟩ => ⟨S112x16384, .bf16⟩
  | .hbm, ⟨13, _⟩ => ⟨S9216x1, .i32⟩
  | .hbm, ⟨14, _⟩ => ⟨S9216x6144, .bf16⟩
  | .hbm, ⟨15, _⟩ => ⟨S9216x16384, .bf16⟩
  | .local _ .vmem, ⟨0, _⟩ => ⟨S512x6144, .bf16⟩
  | .local _ .vmem, ⟨1, _⟩ => ⟨S512x6144, .bf16⟩
  | .local _ .vmem, ⟨2, _⟩ => ⟨S192x1024, .i8⟩
  | .local _ .vmem, ⟨3, _⟩ => ⟨S192x1024, .i8⟩
  | .local _ .vmem, ⟨4, _⟩ => ⟨S96x1024, .f32⟩
  | .local _ .vmem, ⟨5, _⟩ => ⟨S96x1024, .f32⟩
  | .local _ .vmem, ⟨6, _⟩ => ⟨S6144x256, .bf16⟩
  | .local _ .vmem, ⟨7, _⟩ => ⟨S112x1024, .bf16⟩
  | .local _ .vmem, ⟨8, _⟩ => ⟨S112x1024, .bf16⟩
  | .local _ .vmem, ⟨9, _⟩ => ⟨S512x1, .i32⟩
  | .local _ .vmem, ⟨10, _⟩ => ⟨S512x1, .i32⟩
  | .local _ .vmem, ⟨11, _⟩ => ⟨S512x1024, .bf16⟩
  | .local _ .vmem, ⟨12, _⟩ => ⟨S512x1024, .bf16⟩
  | .local _ .vmem, ⟨13, _⟩ => ⟨S2x6144x1024, .bf16⟩
  | .local _ .vmem, ⟨14, _⟩ => ⟨S2x256x1024, .bf16⟩
  | .local _ .vmem, ⟨15, _⟩ => ⟨S9216x256, .bf16⟩
  | _, _ => ⟨S12x768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![17, 18], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c512_i32 : BitVec 32 := 512#32
  let v0 : BitVec 32 := Scalar.muli arg1 c512_i32
  let v455 : Index := Scalar.indexCast v0
  let c0_193 : Index := 0#32
  ![v455.toNat, 0]
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .ne v5 c0_i32_2
  v6

def k0_off2 (i : grid0.Coords) : Fin 3 → Nat :=
  let arg0 : BitVec 32 := BitVec.ofNat 32 (i 0).val
  let c1_i32_184 : BitVec 32 := 1#32
  let v438 : BitVec 32 := Scalar.subi arg0 c1_i32_184
  let c2_i32_185 : BitVec 32 := 2#32
  let v439 : BitVec 32 := Scalar.remsi v438 c2_i32_185
  let v442 : Index := Scalar.indexCast v439
  let c0_188 : Index := 0#32
  let c0_189 : Index := 0#32
  ![v442.toNat, 0, 0]
def k0_off3 (i : grid0.Coords) : Fin 2 → Nat :=
  let arg1 : BitVec 32 := BitVec.ofNat 32 (i 1).val
  let c512_i32 : BitVec 32 := 512#32
  let v0 : BitVec 32 := Scalar.muli arg1 c512_i32
  let v446 : Index := Scalar.indexCast v0
  let c0_191 : Index := 0#32
  ![v446.toNat, 0]
def k0_off4 (i : grid0.Coords) : Fin 3 → Nat :=
  let arg0 : BitVec 32 := BitVec.ofNat 32 (i 0).val
  let c1_i32_184 : BitVec 32 := 1#32
  let v438 : BitVec 32 := Scalar.subi arg0 c1_i32_184
  let c2_i32_185 : BitVec 32 := 2#32
  let v439 : BitVec 32 := Scalar.remsi v438 c2_i32_185
  let v448 : Index := Scalar.indexCast v439
  let c0_192 : Index := 0#32
  let c0_193 : Index := 0#32
  ![v448.toNat, 0, 0]
def k0_off5 (i : grid0.Coords) (c0_i32_3 : BitVec 32) : Fin 2 → Nat :=
  let arg1 : BitVec 32 := BitVec.ofNat 32 (i 1).val
  let c15_i32 : BitVec 32 := 15#32
  let v8 : BitVec 32 := Scalar.minsi arg1 c15_i32
  let c6_i32 : BitVec 32 := 6#32
  let v9 : BitVec 32 := Scalar.muli v8 c6_i32
  let v10 : BitVec 32 := Scalar.addi v9 c0_i32_3
  let v11 : Index := Scalar.indexCast v10
  let c0 : Index := 0#32
  ![v11.toNat, 0]
def k0_mult1 (i : grid0.Coords) : BitVec 32 :=
  let arg1 : BitVec 32 := BitVec.ofNat 32 (i 1).val
  let c15_i32 : BitVec 32 := 15#32
  let v8 : BitVec 32 := Scalar.minsi arg1 c15_i32
  let c384_i32 : BitVec 32 := 384#32
  let v72 : BitVec 32 := Scalar.muli v8 c384_i32
  let c0_i32_24 : BitVec 32 := 0#32
  let v73 : BitVec 32 := Scalar.addi v72 c0_i32_24
  v73
def k0_off6 (i : grid0.Coords) (c0_i32_24 : BitVec 32) : Fin 3 → Nat :=
  let arg0 : BitVec 32 := BitVec.ofNat 32 (i 0).val
  let c2_i32 : BitVec 32 := 2#32
  let v7 : BitVec 32 := Scalar.remsi arg0 c2_i32
  let v75 : Index := Scalar.indexCast v7
  let arg1 : BitVec 32 := BitVec.ofNat 32 (i 1).val
  let c15_i32 : BitVec 32 := 15#32
  let v8 : BitVec 32 := Scalar.minsi arg1 c15_i32
  let c384_i32 : BitVec 32 := 384#32
  let v72 : BitVec 32 := Scalar.muli v8 c384_i32
  let v73 : BitVec 32 := Scalar.addi v72 c0_i32_24
  let v74 : BitVec 32 := v73
  let v76 : Index := Scalar.indexCast v74
  let c0_25 : Index := 0#32
  ![v75.toNat, v76.toNat, 0]
def k0_mult2 (i : grid0.Coords) : BitVec 32 :=
  let arg1 : BitVec 32 := BitVec.ofNat 32 (i 1).val
  let c15_i32 : BitVec 32 := 15#32
  let v8 : BitVec 32 := Scalar.minsi arg1 c15_i32
  let c384_i32_55 : BitVec 32 := 384#32
  let v143 : BitVec 32 := Scalar.muli v8 c384_i32_55
  let c64_i32 : BitVec 32 := 64#32
  let v144 : BitVec 32 := Scalar.addi v143 c64_i32
  v144
def k0_mult3 (i : grid0.Coords) : BitVec 32 :=
  let arg1 : BitVec 32 := BitVec.ofNat 32 (i 1).val
  let c15_i32 : BitVec 32 := 15#32
  let v8 : BitVec 32 := Scalar.minsi arg1 c15_i32
  let c384_i32_87 : BitVec 32 := 384#32
  let v214 : BitVec 32 := Scalar.muli v8 c384_i32_87
  let c128_i32 : BitVec 32 := 128#32
  let v215 : BitVec 32 := Scalar.addi v214 c128_i32
  v215
def k0_mult4 (i : grid0.Coords) : BitVec 32 :=
  let arg1 : BitVec 32 := BitVec.ofNat 32 (i 1).val
  let c15_i32 : BitVec 32 := 15#32
  let v8 : BitVec 32 := Scalar.minsi arg1 c15_i32
  let c384_i32_118 : BitVec 32 := 384#32
  let v285 : BitVec 32 := Scalar.muli v8 c384_i32_118
  let c192_i32 : BitVec 32 := 192#32
  let v286 : BitVec 32 := Scalar.addi v285 c192_i32
  v286
def k0_mult5 (i : grid0.Coords) : BitVec 32 :=
  let arg1 : BitVec 32 := BitVec.ofNat 32 (i 1).val
  let c15_i32 : BitVec 32 := 15#32
  let v8 : BitVec 32 := Scalar.minsi arg1 c15_i32
  let c384_i32_149 : BitVec 32 := 384#32
  let v356 : BitVec 32 := Scalar.muli v8 c384_i32_149
  let c256_i32 : BitVec 32 := 256#32
  let v357 : BitVec 32 := Scalar.addi v356 c256_i32
  v357
def k0_mult6 (i : grid0.Coords) : BitVec 32 :=
  let arg1 : BitVec 32 := BitVec.ofNat 32 (i 1).val
  let c15_i32 : BitVec 32 := 15#32
  let v8 : BitVec 32 := Scalar.minsi arg1 c15_i32
  let c384_i32_180 : BitVec 32 := 384#32
  let v427 : BitVec 32 := Scalar.muli v8 c384_i32_180
  let c320_i32 : BitVec 32 := 320#32
  let v428 : BitVec 32 := Scalar.addi v427 c320_i32
  v428
def k0_cond3 (i : grid0.Coords) : BitVec 1 :=
  let arg1 : BitVec 32 := BitVec.ofNat 32 (i 1).val
  let c0_i32_182 : BitVec 32 := 0#32
  let v435 : BitVec 1 := Scalar.cmpi .eq arg1 c0_i32_182
  let v436 : BitVec 32 := Scalar.extui v435
  let c0_i32_183 : BitVec 32 := 0#32
  let v437 : BitVec 1 := Scalar.cmpi .ne v436 c0_i32_183
  v437

def k0_off7 (i : grid0.Coords) : Fin 3 → Nat :=
  let arg0 : BitVec 32 := BitVec.ofNat 32 (i 0).val
  let c2_i32 : BitVec 32 := 2#32
  let v7 : BitVec 32 := Scalar.remsi arg0 c2_i32
  let v442 : Index := Scalar.indexCast v7
  let c0_187 : Index := 0#32
  let c0_188 : Index := 0#32
  ![v442.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c15_i32_0 : BitVec 32 := 15#32
  let v1 : BitVec 32 := Scalar.minsi arg0 c15_i32_0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S192x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S6144x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S112x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S12x768x6144 : Shape := ⟨3, ![12, 768, 6144]⟩
abbrev S3072x16384 : Shape := ⟨2, ![3072, 16384]⟩
abbrev S96x16384 : Shape := ⟨2, ![96, 16384]⟩
abbrev S7x6144x16 : Shape := ⟨3, ![7, 6144, 16]⟩
abbrev S7x16x16384 : Shape := ⟨3, ![7, 16, 16384]⟩
abbrev S12x768 : Shape := ⟨2, ![12, 768]⟩
abbrev S2 : Shape := ⟨1, ![2]⟩
abbrev S_ : Shape := ⟨0, ![]⟩
abbrev S3072x1x16384 : Shape := ⟨3, ![3072, 1, 16384]⟩
abbrev S1x2x1 : Shape := ⟨3, ![1, 2, 1]⟩
abbrev S3072x2x16384 : Shape := ⟨3, ![3072, 2, 16384]⟩
abbrev S96x64x16384 : Shape := ⟨3, ![96, 64, 16384]⟩
abbrev S96x1x16384 : Shape := ⟨3, ![96, 1, 16384]⟩
abbrev S6144x16384 : Shape := ⟨2, ![6144, 16384]⟩
abbrev S12x768x16384 : Shape := ⟨3, ![12, 768, 16384]⟩
abbrev S12x768x7x16 : Shape := ⟨4, ![12, 768, 7, 16]⟩
abbrev S12x768x1 : Shape := ⟨3, ![12, 768, 1]⟩
abbrev S7 : Shape := ⟨1, ![7]⟩
abbrev S1x1x7 : Shape := ⟨3, ![1, 1, 7]⟩
abbrev S12x768x7 : Shape := ⟨3, ![12, 768, 7]⟩
abbrev S12x768x7x1 : Shape := ⟨4, ![12, 768, 7, 1]⟩
abbrev S9216x16384 : Shape := ⟨2, ![9216, 16384]⟩

abbrev nBuf : Space → Nat
  | .hbm => 129
  | .vmem => 0
  | .smem => 0
  | _ => 0

abbrev hbmTy0_0 (i : Nat) : BufTy := match i % 128 with
  | 0 => ⟨S12x768x6144, .bf16⟩
  | 1 => ⟨S3072x16384, .i8⟩
  | 2 => ⟨S96x16384, .f32⟩
  | 3 => ⟨S7x6144x16, .bf16⟩
  | 4 => ⟨S7x16x16384, .bf16⟩
  | 5 => ⟨S12x768, .i32⟩
  | 6 => ⟨S2, .i32⟩
  | 7 => ⟨S_, .i32⟩
  | 8 => ⟨S2, .i32⟩
  | 9 => ⟨S2, .i32⟩
  | 10 => ⟨S3072x16384, .i32⟩
  | 11 => ⟨S3072x1x16384, .i32⟩
  | 12 => ⟨S1x2x1, .i32⟩
  | 13 => ⟨S3072x2x16384, .i32⟩
  | 14 => ⟨S3072x2x16384, .i32⟩
  | 15 => ⟨S3072x2x16384, .i32⟩
  | 16 => ⟨S_, .i32⟩
  | 17 => ⟨S3072x2x16384, .i32⟩
  | 18 => ⟨S3072x2x16384, .i32⟩
  | 19 => ⟨S_, .i32⟩
  | 20 => ⟨S3072x2x16384, .i32⟩
  | 21 => ⟨S3072x2x16384, .i32⟩
  | 22 => ⟨S_, .i32⟩
  | 23 => ⟨S3072x2x16384, .i32⟩
  | 24 => ⟨S3072x2x16384, .i32⟩
  | 25 => ⟨S_, .i32⟩
  | 26 => ⟨S3072x2x16384, .i32⟩
  | 27 => ⟨S3072x2x16384, .i1⟩
  | 28 => ⟨S_, .i32⟩
  | 29 => ⟨S3072x2x16384, .i32⟩
  | 30 => ⟨S3072x2x16384, .i32⟩
  | 31 => ⟨S_, .i32⟩
  | 32 => ⟨S3072x2x16384, .i32⟩
  | 33 => ⟨S3072x2x16384, .i32⟩
  | 34 => ⟨S_, .i32⟩
  | 35 => ⟨S3072x2x16384, .i32⟩
  | 36 => ⟨S3072x2x16384, .i1⟩
  | 37 => ⟨S_, .i32⟩
  | 38 => ⟨S3072x2x16384, .i32⟩
  | 39 => ⟨S3072x2x16384, .i32⟩
  | 40 => ⟨S_, .i32⟩
  | 41 => ⟨S3072x2x16384, .i32⟩
  | 42 => ⟨S3072x2x16384, .i32⟩
  | 43 => ⟨S_, .i32⟩
  | 44 => ⟨S3072x2x16384, .i32⟩
  | 45 => ⟨S3072x2x16384, .i1⟩
  | 46 => ⟨S_, .i32⟩
  | 47 => ⟨S3072x2x16384, .i32⟩
  | 48 => ⟨S3072x2x16384, .i32⟩
  | 49 => ⟨S_, .i32⟩
  | 50 => ⟨S3072x2x16384, .i32⟩
  | 51 => ⟨S3072x2x16384, .i32⟩
  | 52 => ⟨S_, .i32⟩
  | 53 => ⟨S3072x2x16384, .i32⟩
  | 54 => ⟨S3072x2x16384, .i1⟩
  | 55 => ⟨S96x16384, .bf16⟩
  | 56 => ⟨S_, .bf16⟩
  | 57 => ⟨S_, .bf16⟩
  | 58 => ⟨S3072x2x16384, .bf16⟩
  | 59 => ⟨S3072x2x16384, .bf16⟩
  | 60 => ⟨S3072x2x16384, .bf16⟩
  | 61 => ⟨S_, .bf16⟩
  | 62 => ⟨S_, .bf16⟩
  | 63 => ⟨S3072x2x16384, .bf16⟩
  | 64 => ⟨S3072x2x16384, .bf16⟩
  | 65 => ⟨S3072x2x16384, .bf16⟩
  | 66 => ⟨S3072x2x16384, .bf16⟩
  | 67 => ⟨S_, .bf16⟩
  | 68 => ⟨S_, .bf16⟩
  | 69 => ⟨S3072x2x16384, .bf16⟩
  | 70 => ⟨S3072x2x16384, .bf16⟩
  | 71 => ⟨S3072x2x16384, .bf16⟩
  | 72 => ⟨S_, .bf16⟩
  | 73 => ⟨S_, .bf16⟩
  | 74 => ⟨S3072x2x16384, .bf16⟩
  | 75 => ⟨S3072x2x16384, .bf16⟩
  | 76 => ⟨S3072x2x16384, .bf16⟩
  | 77 => ⟨S3072x2x16384, .bf16⟩
  | 78 => ⟨S3072x2x16384, .bf16⟩
  | 79 => ⟨S_, .bf16⟩
  | 80 => ⟨S_, .bf16⟩
  | 81 => ⟨S3072x2x16384, .bf16⟩
  | 82 => ⟨S3072x2x16384, .bf16⟩
  | 83 => ⟨S3072x2x16384, .bf16⟩
  | 84 => ⟨S_, .bf16⟩
  | 85 => ⟨S_, .bf16⟩
  | 86 => ⟨S3072x2x16384, .bf16⟩
  | 87 => ⟨S3072x2x16384, .bf16⟩
  | 88 => ⟨S3072x2x16384, .bf16⟩
  | 89 => ⟨S3072x2x16384, .bf16⟩
  | 90 => ⟨S_, .bf16⟩
  | 91 => ⟨S_, .bf16⟩
  | 92 => ⟨S3072x2x16384, .bf16⟩
  | 93 => ⟨S3072x2x16384, .bf16⟩
  | 94 => ⟨S3072x2x16384, .bf16⟩
  | 95 => ⟨S_, .bf16⟩
  | 96 => ⟨S_, .bf16⟩
  | 97 => ⟨S3072x2x16384, .bf16⟩
  | 98 => ⟨S3072x2x16384, .bf16⟩
  | 99 => ⟨S3072x2x16384, .bf16⟩
  | 100 => ⟨S3072x2x16384, .bf16⟩
  | 101 => ⟨S3072x2x16384, .bf16⟩
  | 102 => ⟨S3072x2x16384, .bf16⟩
  | 103 => ⟨S96x64x16384, .bf16⟩
  | 104 => ⟨S96x1x16384, .bf16⟩
  | 105 => ⟨S96x64x16384, .bf16⟩
  | 106 => ⟨S96x64x16384, .bf16⟩
  | 107 => ⟨S6144x16384, .bf16⟩
  | 108 => ⟨S12x768x16384, .f32⟩
  | 109 => ⟨S12x768x7x16, .f32⟩
  | 110 => ⟨S12x768x7x16, .bf16⟩
  | 111 => ⟨S12x768x1, .i32⟩
  | 112 => ⟨S7, .i32⟩
  | 113 => ⟨S1x1x7, .i32⟩
  | 114 => ⟨S12x768x7, .i32⟩
  | 115 => ⟨S12x768x7, .i32⟩
  | 116 => ⟨S12x768x7, .i1⟩
  | 117 => ⟨S12x768x7x1, .i1⟩
  | 118 => ⟨S_, .bf16⟩
  | 119 => ⟨S12x768x7x16, .i1⟩
  | 120 => ⟨S12x768x7x16, .bf16⟩
  | 121 => ⟨S12x768x7x16, .bf16⟩
  | 122 => ⟨S12x768x16384, .f32⟩
  | 123 => ⟨S_, .f32⟩
  | 124 => ⟨S12x768x16384, .f32⟩
  | 125 => ⟨S12x768x16384, .f32⟩
  | 126 => ⟨S12x768x16384, .f32⟩
  | 127 => ⟨S12x768x16384, .bf16⟩
  | _ => ⟨S12x768x6144, .bf16⟩

abbrev hbmTy0_1 (i : Nat) : BufTy := match i % 128 with
  | 0 => ⟨S9216x16384, .bf16⟩
  | _ => ⟨S12x768x6144, .bf16⟩

abbrev hbmTy (i : Nat) : BufTy := match i / 128 with
  | 0 => hbmTy0_0 i
  | 1 => hbmTy0_1 i
  | _ => ⟨S12x768x6144, .bf16⟩

abbrev bufTy : (tb : Table) → Fin (tcTables nBuf tb) → BufTy
  | .hbm, ⟨i, _⟩ => hbmTy i
  | _, _ => ⟨S12x768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_v25 : Ref sig .tc := ⟨.hbm, 41, rfl⟩
abbrev main_v26 : Ref sig .tc := ⟨.hbm, 42, rfl⟩
abbrev main_c_9 : Ref sig .tc := ⟨.hbm, 43, rfl⟩
abbrev main_v27 : Ref sig .tc := ⟨.hbm, 44, rfl⟩
abbrev main_v28 : Ref sig .tc := ⟨.hbm, 45, rfl⟩
abbrev main_c_10 : Ref sig .tc := ⟨.hbm, 46, rfl⟩
abbrev main_v29 : Ref sig .tc := ⟨.hbm, 47, rfl⟩
abbrev main_v30 : Ref sig .tc := ⟨.hbm, 48, rfl⟩
abbrev main_c_11 : Ref sig .tc := ⟨.hbm, 49, rfl⟩
abbrev main_v31 : Ref sig .tc := ⟨.hbm, 50, rfl⟩
abbrev main_v32 : Ref sig .tc := ⟨.hbm, 51, rfl⟩
abbrev main_c_12 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_cst_13 : Ref sig .tc := ⟨.hbm, 57, rfl⟩
abbrev main_call0_v0 : Ref sig .tc := ⟨.hbm, 58, rfl⟩
abbrev main_call0_v1 : Ref sig .tc := ⟨.hbm, 59, rfl⟩
abbrev main_v36 : Ref sig .tc := ⟨.hbm, 60, rfl⟩
abbrev main_cst_14 : Ref sig .tc := ⟨.hbm, 61, rfl⟩
abbrev main_cst_15 : Ref sig .tc := ⟨.hbm, 62, rfl⟩
abbrev main_call1_v0 : Ref sig .tc := ⟨.hbm, 63, rfl⟩
abbrev main_call1_v1 : Ref sig .tc := ⟨.hbm, 64, rfl⟩
abbrev main_v37 : Ref sig .tc := ⟨.hbm, 65, rfl⟩
abbrev main_v38 : Ref sig .tc := ⟨.hbm, 66, rfl⟩
abbrev main_cst_16 : Ref sig .tc := ⟨.hbm, 67, rfl⟩
abbrev main_cst_17 : Ref sig .tc := ⟨.hbm, 68, rfl⟩
abbrev main_call3_v0 : Ref sig .tc := ⟨.hbm, 69, rfl⟩
abbrev main_call3_v1 : Ref sig .tc := ⟨.hbm, 70, rfl⟩
abbrev main_v39 : Ref sig .tc := ⟨.hbm, 71, rfl⟩
abbrev main_cst_18 : Ref sig .tc := ⟨.hbm, 72, rfl⟩
abbrev main_cst_19 : Ref sig .tc := ⟨.hbm, 73, rfl⟩
abbrev main_call4_v0 : Ref sig .tc := ⟨.hbm, 74, rfl⟩
abbrev main_call4_v1 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_20 : Ref sig .tc := ⟨.hbm, 79, rfl⟩
abbrev main_cst_21 : Ref sig .tc := ⟨.hbm, 80, rfl⟩
abbrev main_call7_v0 : Ref sig .tc := ⟨.hbm, 81, rfl⟩
abbrev main_call7_v1 : Ref sig .tc := ⟨.hbm, 82, rfl⟩
abbrev main_v43 : Ref sig .tc := ⟨.hbm, 83, rfl⟩
abbrev main_cst_22 : Ref sig .tc := ⟨.hbm, 84, rfl⟩
abbrev main_cst_23 : Ref sig .tc := ⟨.hbm, 85, rfl⟩
abbrev main_call8_v0 : Ref sig .tc := ⟨.hbm, 86, rfl⟩
abbrev main_call8_v1 : Ref sig .tc := ⟨.hbm, 87, rfl⟩
abbrev main_v44 : Ref sig .tc := ⟨.hbm, 88, rfl⟩
abbrev main_v45 : Ref sig .tc := ⟨.hbm, 89, rfl⟩
abbrev main_cst_24 : Ref sig .tc := ⟨.hbm, 90, rfl⟩
abbrev main_cst_25 : Ref sig .tc := ⟨.hbm, 91, rfl⟩
abbrev main_call10_v0 : Ref sig .tc := ⟨.hbm, 92, rfl⟩
abbrev main_call10_v1 : Ref sig .tc := ⟨.hbm, 93, rfl⟩
abbrev main_v46 : Ref sig .tc := ⟨.hbm, 94, rfl⟩
abbrev main_cst_26 : Ref sig .tc := ⟨.hbm, 95, rfl⟩
abbrev main_cst_27 : Ref sig .tc := ⟨.hbm, 96, rfl⟩
abbrev main_call11_v0 : Ref sig .tc := ⟨.hbm, 97, rfl⟩
abbrev main_call11_v1 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_28 : Ref sig .tc := ⟨.hbm, 118, rfl⟩
abbrev main_call15_v0 : Ref sig .tc := ⟨.hbm, 119, rfl⟩
abbrev main_call15_v1 : Ref sig .tc := ⟨.hbm, 120, rfl⟩
abbrev main_v66 : Ref sig .tc := ⟨.hbm, 121, rfl⟩
abbrev main_v67 : Ref sig .tc := ⟨.hbm, 122, rfl⟩
abbrev main_cst_29 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩

abbrev nD : Nat := 1
abbrev τ : Topo := Topo.v7x

variable {F : FTy → Type} [FloatOps F]
-- ==== Proof.K.Common.lean ====
/- What the four runs of the kernel body share: its three branch conditions over the grid points, the staging and scratch memrefs of a
   point, and the invariant of the frame spelt over the scratch memrefs. -/
module

public import proofs.«01_k».proof.Proof.Gen.Kernel.Skeleton
public import proofs.«01_k».proof.Proof.Gen.Kernel.Frame

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 18 — by arithmetic of the point. -/
theorem hcond0_0 : ∀ t : Fin cfg0.N, cond0_0 (grid0.coords t) ↔ t.val < 18 :=
  (fun t => by
    have ht : t.val < 306 := Nat.lt_of_lt_of_eq t.isLt N_0
    have e0 : (grid0.coords t 0).val = t.val / 18 % 17 := Pipeline.Grid.coords_val t 0 (by decide) rfl
    have e1 : (grid0.coords t 1).val = t.val / 1 % 18 := Pipeline.Grid.coords_val t 1 (by decide) rfl
    simp only [cond0_0, k0_cond1, e0, e1]
    word_cmp
   : ∀ t : Fin grid0.N, cond0_0 (grid0.coords t) ↔ t.val < 18)

/-- The condition of the body's `scf.if` 1 (`k0_h2`), from the grid coordinates (the skeleton's scalar
    chain substituted). -/
abbrev cond0_1 (i : grid0.Coords) : Prop := k0_cond2 i = 1#1
/-- It holds at the points from point 18 on — decided over the grid. -/
theorem hcond0_1 : ∀ t : Fin cfg0.N, cond0_1 (grid0.coords t) ↔ 18 ≤ t.val :=
  (by decide +kernel : ∀ t : Fin grid0.N, cond0_1 (grid0.coords t) ↔ 18 ≤ t.val)

/-- The condition of the body's `scf.if` 2 (`k0_h3`), from the grid coordinates (the skeleton's scalar
    chain substituted). -/
abbrev cond0_2 (i : grid0.Coords) : Prop := k0_cond3 i = 1#1
/-- It holds at the points ≡ 0 (mod 18) — by arithmetic of the point. -/
theorem hcond0_2 : ∀ t : Fin cfg0.N, cond0_2 (grid0.coords t) ↔ t.val % 18 = 0 :=
  (fun t => by
    have ht : t.val < 306 := Nat.lt_of_lt_of_eq t.isLt N_0
    have e0 : (grid0.coords t 0).val = t.val / 18 % 17 := Pipeline.Grid.coords_val t 0 (by decide) rfl
    have e1 : (grid0.coords t 1).val = t.val / 1 % 18 := Pipeline.Grid.coords_val t 1 (by decide) rfl
    simp only [cond0_2, k0_cond3, e0, e1]
    word_cmp
   : ∀ t : Fin grid0.N, cond0_2 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S192x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S112x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x6144x1024 .bf16 := Memref.whole cc0_scratch0
abbrev scM0_1 : Memref sig .tc .vmem S2x256x1024 .bf16 := Memref.whole cc0_scratch1
abbrev scM0_2 : Memref sig .tc .vmem S9216x256 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Body

end
-- ==== Proof.K.Spec.lean ====
/- What one grid point of the kernel body does to its buffers, as plain functions of what the buffers held: the block of rows it stores in
   the scratch of `h`, the six sub-blocks of dequantized weights it stores in one slot of the weight scratch, the stacked `b` block it
   stores in one slot of its scratch, and the output block. -/
module

public import proofs.«01_k».proof.Proof.K.Common
public import Idealize.ShloMosaic.Lib.VecWindow

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The payload of one sub-block: 32 rows of packed codes and one row of scales make 64 rows of weights. -/
def blk (a : Vec F S1x1024 .f32) (p : Vec F S32x1024 .i8) : FVec F S1x64x1024 .bf16 :=
  k0_pay11 (k0_pay10 (k0_pay4 a) (k0_pay5 p) (k0_pay6 p) (k0_pay7 p) (k0_pay8 p) k0_pay9)

/-- Sub-block 1's payload as the body spells it. -/
def pay1 (a : Vec F S1x1024 .f32) (p : Vec F S32x1024 .i8) : FVec F S1x64x1024 .bf16 :=
  k0_pay20 (k0_pay12 a) (k0_pay14 p) (k0_pay15 p) (k0_pay16 p) (k0_pay17 p) (k0_pay18 p) (k0_pay19 p)
theorem pay1_eq (a : Vec F S1x1024 .f32) (p : Vec F S32x1024 .i8) : pay1 a p = blk a p := rfl

/-- Sub-block 2's payload as the body spells it. -/
def pay2 (a : Vec F S1x1024 .f32) (p : Vec F S32x1024 .i8) : FVec F S1x64x1024 .bf16 :=
  k0_pay28 (k0_pay21 a) (k0_pay23 p) (k0_pay24 p) (k0_pay25 p) (k0_pay26 p) (k0_pay27 p) (Scalar.ofBits .bf16 0x0000#16)
theorem pay2_eq (a : Vec F S1x1024 .f32) (p : Vec F S32x1024 .i8) : pay2 a p = blk a p := rfl

/-- Sub-block 3's payload as the body spells it. -/
def pay3 (a : Vec F S1x1024 .f32) (p : Vec F S32x1024 .i8) : FVec F S1x64x1024 .bf16 :=
  k0_pay40 (k0_pay29 a) (k0_pay32 (k0_pay30 p) k0_pay31) (k0_pay33 (k0_pay30 p)) (k0_pay34 (k0_pay30 p)) (k0_pay35 (k0_pay30 p)) (k0_pay36 (k0_pay30 p) k0_pay31) (k0_pay37 (k0_pay30 p) k0_pay31) k0_pay38 k0_pay39
theorem pay3_eq (a : Vec F S1x1024 .f32) (p : Vec F S32x1024 .i8) : pay3 a p = blk a p := rfl

/-- Sub-block 4's payload as the body spells it. -/
def pay4 (a : Vec F S1x1024 .f32) (p : Vec F S32x1024 .i8) : FVec F S1x64x1024 .bf16 :=
  k0_pay47 (k0_pay46 (k0_pay41 a) (k0_pay42 p) (k0_pay43 p) (k0_pay44 p) (k0_pay45 p) 0#16)
theorem pay4_eq (a : Vec F S1x1024 .f32) (p : Vec F S32x1024 .i8) : pay4 a p = blk a p := rfl

/-- Sub-block 5's payload as the body spells it. -/
def pay5 (a : Vec F S1x1024 .f32) (p : Vec F S32x1024 .i8) : FVec F S1x64x1024 .bf16 :=
  k0_pay55 (k0_pay48 a) (k0_pay50 p) (k0_pay51 p) (k0_pay52 p) (k0_pay53 p) (k0_pay54 p) (Scalar.ofBits .bf16 0x3F10#16)
theorem pay5_eq (a : Vec F S1x1024 .f32) (p : Vec F S32x1024 .i8) : pay5 a p = blk a p := rfl

/-- The row of scales that sub-block `r` reads. -/
abbrev scl (i : grid0.Coords) (x2 : Vec F S96x1024 .f32) (r : Fin 6) : Vec F S1x1024 .f32 :=
  View.ld x2 (Rect.unit (s := S96x1024) (k0_off5 i (BitVec.ofNat 32 r.val)) S1x1024.size (k0_off5_inb i r))

/-- The weight scratch after the body: six sub-blocks put over what it held. -/
def wNext (i : grid0.Coords) (x1 : Vec F S192x1024 .i8) (x2 : Vec F S96x1024 .f32) (d : Vec F S2x6144x1024 .bf16) : Vec F S2x6144x1024 .bf16 :=
  VecWindow.put (VecWindow.put (VecWindow.put (VecWindow.put (VecWindow.put (VecWindow.put d
    (k0_off6 i 0#32) S1x64x1024.size (blk (scl i x2 0) (View.ld x1 (Rect.unit (s := S192x1024) ![0, 0] S32x1024.size inb_S192x1024_S32x1024_0_0))))
    (k0_off6 i 64#32) S1x64x1024.size (pay1 (scl i x2 1) (View.ld x1 (Rect.unit (s := S192x1024) ![32, 0] S32x1024.size inb_S192x1024_S32x1024_32_0))))
    (k0_off6 i 128#32) S1x64x1024.size (pay2 (scl i x2 2) (View.ld x1 (Rect.unit (s := S192x1024) ![64, 0] S32x1024.size inb_S192x1024_S32x1024_64_0))))
    (k0_off6 i 192#32) S1x64x1024.size (pay3 (scl i x2 3) (View.ld x1 (Rect.unit (s := S192x1024) ![96, 0] S32x1024.size inb_S192x1024_S32x1024_96_0))))
    (k0_off6 i 256#32) S1x64x1024.size (pay4 (scl i x2 4) (View.ld x1 (Rect.unit (s := S192x1024) ![128, 0] S32x1024.size inb_S192x1024_S32x1024_128_0))))
    (k0_off6 i 320#32) S1x64x1024.size (pay5 (scl i x2 5) (View.ld x1 (Rect.unit (s := S192x1024) ![160, 0] S32x1024.size inb_S192x1024_S32x1024_160_0)))

/-- The same with every sub-block's payload spelt one way. -/
theorem wNext_eq (i : grid0.Coords) (x1 : Vec F S192x1024 .i8) (x2 : Vec F S96x1024 .f32) (d : Vec F S2x6144x1024 .bf16) : wNext i x1 x2 d =
  VecWindow.put (VecWindow.put (VecWindow.put (VecWindow.put (VecWindow.put (VecWindow.put d
    (k0_off6 i 0#32) S1x64x1024.size (blk (scl i x2 0) (View.ld x1 (Rect.unit (s := S192x1024) ![0, 0] S32x1024.size inb_S192x1024_S32x1024_0_0))))
    (k0_off6 i 64#32) S1x64x1024.size (blk (scl i x2 1) (View.ld x1 (Rect.unit (s := S192x1024) ![32, 0] S32x1024.size inb_S192x1024_S32x1024_32_0))))
    (k0_off6 i 128#32) S1x64x1024.size (blk (scl i x2 2) (View.ld x1 (Rect.unit (s := S192x1024) ![64, 0] S32x1024.size inb_S192x1024_S32x1024_64_0))))
    (k0_off6 i 192#32) S1x64x1024.size (blk (scl i x2 3) (View.ld x1 (Rect.unit (s := S192x1024) ![96, 0] S32x1024.size inb_S192x1024_S32x1024_96_0))))
    (k0_off6 i 256#32) S1x64x1024.size (blk (scl i x2 4) (View.ld x1 (Rect.unit (s := S192x1024) ![128, 0] S32x1024.size inb_S192x1024_S32x1024_128_0))))
    (k0_off6 i 320#32) S1x64x1024.size (blk (scl i x2 5) (View.ld x1 (Rect.unit (s := S192x1024) ![160, 0] S32x1024.size inb_S192x1024_S32x1024_160_0))) := by
  unfold wNext
  rw [pay1_eq, pay2_eq, pay3_eq, pay4_eq, pay5_eq]

/-- The scratch of `h` after the body where it stores there. -/
def hNext (i : grid0.Coords) (x0 : Vec F S512x6144 .bf16) (x3 : Vec F S6144x256 .bf16) (x5 : Vec F S512x1 .i32) (d : Vec F S9216x256 .bf16) :
    Vec F S9216x256 .bf16 :=
  VecWindow.put d (k0_off1 i) S512x256.size (k0_pay2 x0 x3 x5)

/-- The scratch of the stacked `b` blocks after the body where it stores there. -/
def bNext (i : grid0.Coords) (x4 : Vec F S112x1024 .bf16) (d : Vec F S2x256x1024 .bf16) : Vec F S2x256x1024 .bf16 :=
  VecWindow.put d (k0_off7 i) S1x256x1024.size (k0_pay1 x4)

/-- The output block where the body stores it. -/
def oNext (i : grid0.Coords) (hc : cond0_1 i) (x0 : Vec F S512x6144 .bf16) (d9 : Vec F S2x6144x1024 .bf16) (d10 : Vec F S2x256x1024 .bf16)
    (d11 : Vec F S9216x256 .bf16) : Vec F S512x1024 .bf16 :=
  k0_pay3 x0 (View.ld d9 (Rect.unit (s := S2x6144x1024) (k0_off2 i) S1x6144x1024.size (k0_off2_inb i hc)))
    (View.ld d11 (Rect.unit (s := S9216x256) (k0_off3 i) S512x256.size (k0_off3_inb i hc)))
    (View.ld d10 (Rect.unit (s := S2x256x1024) (k0_off4 i) S1x256x1024.size (k0_off4_inb i hc)))

end Cert.Kernel.Body

end
-- ==== Proof.K.RunA.lean ====
/- The run of the kernel body at the first point, where the body stores `h` rows and the `b` block: what each buffer holds after it, as the functions of Spec. -/
module

public import proofs.«01_k».proof.Proof.K.Spec

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: the inputs come back as they were, the other buffers at the functions of Spec. -/
theorem kernelRun0_A (c : Dev nD) (i : grid0.Coords) (arg2 : Memref sig .tc .vmem S512x6144 .bf16) (harg2 : arg2.IsWhole) (arg3 : Memref sig .tc .vmem S192x1024 .i8) (harg3 : arg3.IsWhole) (arg4 : Memref sig .tc .vmem S96x1024 .f32) (harg4 : arg4.IsWhole) (arg5 : Memref sig .tc .vmem S6144x256 .bf16) (harg5 : arg5.IsWhole) (arg6 : Memref sig .tc .vmem S112x1024 .bf16) (harg6 : arg6.IsWhole) (arg7 : Memref sig .tc .vmem S512x1 .i32) (harg7 : arg7.IsWhole) (arg8 : Memref sig .tc .vmem S512x1024 .bf16) (harg8 : arg8.IsWhole) (arg9 : Memref sig .tc .vmem S2x6144x1024 .bf16) (harg9 : arg9.IsWhole) (arg10 : Memref sig .tc .vmem S2x256x1024 .bf16) (harg10 : arg10.IsWhole) (arg11 : Memref sig .tc .vmem S9216x256 .bf16) (harg11 : arg11.IsWhole) (hc0 : cond0_0 i) (hc1 : ¬cond0_1 i) (hc2 : cond0_2 i)
    (x0 : Vec F S512x6144 .bf16) (x1 : Vec F S192x1024 .i8) (x2 : Vec F S96x1024 .f32) (x3 : Vec F S6144x256 .bf16) (x4 : Vec F S112x1024 .bf16) (x5 : Vec F S512x1 .i32)
    (d8 : Vec F S512x1024 .bf16) (d9 : Vec F S2x6144x1024 .bf16) (d10 : Vec F S2x256x1024 .bf16) (d11 : Vec F S9216x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare (wNext i x1 x2 d9) ∗ owns (c : Thread nD τ) arg10 fullShare (bNext i x4 d10) ∗ owns (c : Thread nD τ) arg11 fullShare (hNext i x0 x3 x5 d11)) -∗ K ⟨⟩))
          ⊢ wp frame (wpE (defs₀ (F := F)) Variants.none c none) E (cc0_qlora_nf4 i arg2 harg2 arg3 harg3 arg4 harg4 arg5 harg5 arg6 harg6 arg7 harg7 arg8 harg8 arg9 harg9 arg10 harg10 arg11 harg11) K := by
    intro E K
    simp only [cc0_qlora_nf4_eq_skeleton]; unfold cc0_qlora_nf4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    subst hf6 hs0 hs1 hs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rfl
    isplitl [HS0]
    · iexists _; isplitr; swap; · iexact HS0
      ipureintro; sl_unfold_run_names; iterate 6 rw [View.read_writes_cons_put _ _ _ _ _ rfl]
      rw [View.writes_nil]; conv_rhs => rw [← hf1, ← hf2]
      rfl
    isplitl [HS1]
    · iexists _; isplitr; swap; · iexact HS1
      ipureintro; rw [View.read_writes_cons_put _ _ _ _ _ rfl, View.writes_nil, View.readAt_full arg6.view _ inb_S112x1024_S112x1024_0_0, harg6.read_unread]; rfl
    iexists _; isplitr; swap; · iexact HS2
    ipureintro; rw [View.read_writes_cons_put _ _ _ _ _ rfl, View.writes_nil, View.readAt_full arg2.view _ inb_S512x6144_S512x6144_0_0, View.readAt_full arg5.view _ inb_S6144x256_S6144x256_0_0, View.readAt_full arg7.view _ inb_S512x1_S512x1_0_0, harg2.read_unread, harg5.read_unread, harg7.read_unread]; rfl

end Cert.Kernel.Body

end
-- ==== Proof.K.RunB.lean ====
/- The run of the kernel body at the other points of the first column, where it stores `h` rows: what each buffer holds after it, as the functions of Spec. -/
module

public import proofs.«01_k».proof.Proof.K.RunA

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: the inputs come back as they were, the other buffers at the functions of Spec. -/
theorem kernelRun0_B (c : Dev nD) (i : grid0.Coords) (arg2 : Memref sig .tc .vmem S512x6144 .bf16) (harg2 : arg2.IsWhole) (arg3 : Memref sig .tc .vmem S192x1024 .i8) (harg3 : arg3.IsWhole) (arg4 : Memref sig .tc .vmem S96x1024 .f32) (harg4 : arg4.IsWhole) (arg5 : Memref sig .tc .vmem S6144x256 .bf16) (harg5 : arg5.IsWhole) (arg6 : Memref sig .tc .vmem S112x1024 .bf16) (harg6 : arg6.IsWhole) (arg7 : Memref sig .tc .vmem S512x1 .i32) (harg7 : arg7.IsWhole) (arg8 : Memref sig .tc .vmem S512x1024 .bf16) (harg8 : arg8.IsWhole) (arg9 : Memref sig .tc .vmem S2x6144x1024 .bf16) (harg9 : arg9.IsWhole) (arg10 : Memref sig .tc .vmem S2x256x1024 .bf16) (harg10 : arg10.IsWhole) (arg11 : Memref sig .tc .vmem S9216x256 .bf16) (harg11 : arg11.IsWhole) (hc0 : cond0_0 i) (hc1 : ¬cond0_1 i) (hc2 : ¬cond0_2 i)
    (x0 : Vec F S512x6144 .bf16) (x1 : Vec F S192x1024 .i8) (x2 : Vec F S96x1024 .f32) (x3 : Vec F S6144x256 .bf16) (x4 : Vec F S112x1024 .bf16) (x5 : Vec F S512x1 .i32)
    (d8 : Vec F S512x1024 .bf16) (d9 : Vec F S2x6144x1024 .bf16) (d10 : Vec F S2x256x1024 .bf16) (d11 : Vec F S9216x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare (wNext i x1 x2 d9) ∗ owns (c : Thread nD τ) arg10 fullShare d10 ∗ owns (c : Thread nD τ) arg11 fullShare (hNext i x0 x3 x5 d11)) -∗ K ⟨⟩))
          ⊢ wp frame (wpE (defs₀ (F := F)) Variants.none c none) E (cc0_qlora_nf4 i arg2 harg2 arg3 harg3 arg4 harg4 arg5 harg5 arg6 harg6 arg7 harg7 arg8 harg8 arg9 harg9 arg10 harg10 arg11 harg11) K := by
    intro E K
    simp only [cc0_qlora_nf4_eq_skeleton]; unfold cc0_qlora_nf4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    subst hf6 hs0 hs1 hs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rfl
    isplitl [HS0]
    · iexists _; isplitr; swap; · iexact HS0
      ipureintro; sl_unfold_run_names; iterate 6 rw [View.read_writes_cons_put _ _ _ _ _ rfl]
      rw [View.writes_nil]; conv_rhs => rw [← hf1, ← hf2]
      rfl
    isplitl [HS1]
    · iexists _; isplitr; swap; · iexact HS1
      ipureintro; rfl
    iexists _; isplitr; swap; · iexact HS2
    ipureintro; rw [View.read_writes_cons_put _ _ _ _ _ rfl, View.writes_nil, View.readAt_full arg2.view _ inb_S512x6144_S512x6144_0_0, View.readAt_full arg5.view _ inb_S6144x256_S6144x256_0_0, View.readAt_full arg7.view _ inb_S512x1_S512x1_0_0, harg2.read_unread, harg5.read_unread, harg7.read_unread]; rfl

end Cert.Kernel.Body

end
-- ==== Proof.K.RunC.lean ====
/- The run of the kernel body at the first point of a later column, where it stores the output block and the `b` block: what each buffer holds after it, as the functions of Spec. -/
module

public import proofs.«01_k».proof.Proof.K.RunB

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: the inputs come back as they were, the other buffers at the functions of Spec. -/
theorem kernelRun0_C (c : Dev nD) (i : grid0.Coords) (arg2 : Memref sig .tc .vmem S512x6144 .bf16) (harg2 : arg2.IsWhole) (arg3 : Memref sig .tc .vmem S192x1024 .i8) (harg3 : arg3.IsWhole) (arg4 : Memref sig .tc .vmem S96x1024 .f32) (harg4 : arg4.IsWhole) (arg5 : Memref sig .tc .vmem S6144x256 .bf16) (harg5 : arg5.IsWhole) (arg6 : Memref sig .tc .vmem S112x1024 .bf16) (harg6 : arg6.IsWhole) (arg7 : Memref sig .tc .vmem S512x1 .i32) (harg7 : arg7.IsWhole) (arg8 : Memref sig .tc .vmem S512x1024 .bf16) (harg8 : arg8.IsWhole) (arg9 : Memref sig .tc .vmem S2x6144x1024 .bf16) (harg9 : arg9.IsWhole) (arg10 : Memref sig .tc .vmem S2x256x1024 .bf16) (harg10 : arg10.IsWhole) (arg11 : Memref sig .tc .vmem S9216x256 .bf16) (harg11 : arg11.IsWhole) (hc0 : ¬cond0_0 i) (hc1 : cond0_1 i) (hc2 : cond0_2 i)
    (x0 : Vec F S512x6144 .bf16) (x1 : Vec F S192x1024 .i8) (x2 : Vec F S96x1024 .f32) (x3 : Vec F S6144x256 .bf16) (x4 : Vec F S112x1024 .bf16) (x5 : Vec F S512x1 .i32)
    (d8 : Vec F S512x1024 .bf16) (d9 : Vec F S2x6144x1024 .bf16) (d10 : Vec F S2x256x1024 .bf16) (d11 : Vec F S9216x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (oNext i hc1 x0 d9 d10 d11) ∗ owns (c : Thread nD τ) arg9 fullShare (wNext i x1 x2 d9) ∗ owns (c : Thread nD τ) arg10 fullShare (bNext i x4 d10) ∗ owns (c : Thread nD τ) arg11 fullShare d11) -∗ K ⟨⟩))
          ⊢ wp frame (wpE (defs₀ (F := F)) Variants.none c none) E (cc0_qlora_nf4 i arg2 harg2 arg3 harg3 arg4 harg4 arg5 harg5 arg6 harg6 arg7 harg7 arg8 harg8 arg9 harg9 arg10 harg10 arg11 harg11) K := by
    intro E K
    simp only [cc0_qlora_nf4_eq_skeleton]; unfold cc0_qlora_nf4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    subst hf6 hs0 hs1 hs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rw [View.read_writes_full arg8.view _ inb_S512x1024_S512x1024_0_0, View.readAt_full arg2.view _ inb_S512x6144_S512x6144_0_0, harg2.read_unread]; rfl
    isplitl [HS0]
    · iexists _; isplitr; swap; · iexact HS0
      ipureintro; sl_unfold_run_names; iterate 6 rw [View.read_writes_cons_put _ _ _ _ _ rfl]
      rw [View.writes_nil]; conv_rhs => rw [← hf1, ← hf2]
      rfl
    isplitl [HS1]
    · iexists _; isplitr; swap; · iexact HS1
      ipureintro; rw [View.read_writes_cons_put _ _ _ _ _ rfl, View.writes_nil, View.readAt_full arg6.view _ inb_S112x1024_S112x1024_0_0, harg6.read_unread]; rfl
    iexists _; isplitr; swap; · iexact HS2
    ipureintro; rfl

end Cert.Kernel.Body

end
-- ==== Proof.K.RunD.lean ====
/- The run of the kernel body at every other point, where it stores the output block: what each buffer holds after it, as the functions of Spec. -/
module

public import proofs.«01_k».proof.Proof.K.RunC

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: the inputs come back as they were, the other buffers at the functions of Spec. -/
theorem kernelRun0_D (c : Dev nD) (i : grid0.Coords) (arg2 : Memref sig .tc .vmem S512x6144 .bf16) (harg2 : arg2.IsWhole) (arg3 : Memref sig .tc .vmem S192x1024 .i8) (harg3 : arg3.IsWhole) (arg4 : Memref sig .tc .vmem S96x1024 .f32) (harg4 : arg4.IsWhole) (arg5 : Memref sig .tc .vmem S6144x256 .bf16) (harg5 : arg5.IsWhole) (arg6 : Memref sig .tc .vmem S112x1024 .bf16) (harg6 : arg6.IsWhole) (arg7 : Memref sig .tc .vmem S512x1 .i32) (harg7 : arg7.IsWhole) (arg8 : Memref sig .tc .vmem S512x1024 .bf16) (harg8 : arg8.IsWhole) (arg9 : Memref sig .tc .vmem S2x6144x1024 .bf16) (harg9 : arg9.IsWhole) (arg10 : Memref sig .tc .vmem S2x256x1024 .bf16) (harg10 : arg10.IsWhole) (arg11 : Memref sig .tc .vmem S9216x256 .bf16) (harg11 : arg11.IsWhole) (hc0 : ¬cond0_0 i) (hc1 : cond0_1 i) (hc2 : ¬cond0_2 i)
    (x0 : Vec F S512x6144 .bf16) (x1 : Vec F S192x1024 .i8) (x2 : Vec F S96x1024 .f32) (x3 : Vec F S6144x256 .bf16) (x4 : Vec F S112x1024 .bf16) (x5 : Vec F S512x1 .i32)
    (d8 : Vec F S512x1024 .bf16) (d9 : Vec F S2x6144x1024 .bf16) (d10 : Vec F S2x256x1024 .bf16) (d11 : Vec F S9216x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (oNext i hc1 x0 d9 d10 d11) ∗ owns (c : Thread nD τ) arg9 fullShare (wNext i x1 x2 d9) ∗ owns (c : Thread nD τ) arg10 fullShare d10 ∗ owns (c : Thread nD τ) arg11 fullShare d11) -∗ K ⟨⟩))
          ⊢ wp frame (wpE (defs₀ (F := F)) Variants.none c none) E (cc0_qlora_nf4 i arg2 harg2 arg3 harg3 arg4 harg4 arg5 harg5 arg6 harg6 arg7 harg7 arg8 harg8 arg9 harg9 arg10 harg10 arg11 harg11) K := by
    intro E K
    simp only [cc0_qlora_nf4_eq_skeleton]; unfold cc0_qlora_nf4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    subst hf6 hs0 hs1 hs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rw [View.read_writes_full arg8.view _ inb_S512x1024_S512x1024_0_0, View.readAt_full arg2.view _ inb_S512x6144_S512x6144_0_0, harg2.read_unread]; rfl
    isplitl [HS0]
    · iexists _; isplitr; swap; · iexact HS0
      ipureintro; sl_unfold_run_names; iterate 6 rw [View.read_writes_cons_put _ _ _ _ _ rfl]
      rw [View.writes_nil]; conv_rhs => rw [← hf1, ← hf2]
      rfl
    isplitl [HS1]
    · iexists _; isplitr; swap; · iexact HS1
      ipureintro; rfl
    iexists _; isplitr; swap; · iexact HS2
    ipureintro; rfl

end Cert.Kernel.Body

end
-- ==== Proof.K.Track.lean ====
/- The body obligation of the pipeline with a property tracked along the grid: what the scratch buffers hold before each point and
   what the output block holds after it. -/
module

public import proofs.«01_k».proof.Proof.K.RunD
public import Idealize.ShloMosaic.Lib.Claim
public import Idealize.ShloMosaic.Lib.Pipeline.DatRel
public import Idealize.ShloMosaic.Lib.Pipeline.ArrRel

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is tracked along the grid: a property of the three scratch buffers before every point, which holds of anything before point 0 and
    which the body carries from one point to the next, and a property of the output block that it gives where the body stores the block. -/
structure Track where
  /-- the property of the scratch buffers before a point -/
  Inv : Dev nD → ℕ → Vec F S2x6144x1024 .bf16 → Vec F S2x256x1024 .bf16 → Vec F S9216x256 .bf16 → Prop
  /-- the property of the output block that the body leaves at a point -/
  O : Dev nD → Fin cfg0.N → Vec F S512x1024 .bf16 → Prop
  zero : ∀ c d9 d10 d11, Inv c 0 d9 d10 d11
  step : ∀ c (t : Fin cfg0.N) d9 d10 d11, Inv c t.val d9 d10 d11 →
    Inv c (t.val + 1) (wNext (grid0.coords t) (iblk m c 1 t) (iblk m c 2 t) d9)
      (if t.val % 18 = 0 then bNext (grid0.coords t) (iblk m c 4 t) d10 else d10)
      (if t.val < 18 then hNext (grid0.coords t) (iblk m c 0 t) (iblk m c 3 t) (iblk m c 5 t) d11 else d11)
  out : ∀ c (t : Fin cfg0.N), 18 ≤ t.val → ∀ (hc : cond0_1 (grid0.coords t)) d9 d10 d11, Inv c t.val d9 d10 d11 →
    O c t (oNext (grid0.coords t) hc (iblk m c 0 t) d9 d10 d11)
  any : ∀ c (t : Fin cfg0.N), t.val < 18 → ∀ d, O c t d

variable {m} (T : Track m)

/-- Only the output window is held to a property; the inputs' blocks are exact. -/
def marked : Fin 7 → Bool := fun w => w.val == 6

/-- The property that each window is held to. -/
def Rl (c : Dev nD) (w : Fin cfg0.W) (t : Fin cfg0.N) : ((cfg0.win w).block.Idx → Elt F (cfg0.win w).elt) → Prop :=
  match w with
  | ⟨6, _⟩ => fun X => T.O c t X
  | _ => fun _ => True

/-- The proof data: the inputs' buffers at their blocks, the output's not named; the tracked property over the scratch. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := iprop(iprop(∃ d9 d10 d11, ⌜T.Inv c t.val d9 d10 d11⌝ ∗ owns (c : Thread nD τ) scM0_0 fullShare d9 ∗ owns (c : Thread nD τ) scM0_1 fullShare d10
      ∗ owns (c : Thread nD τ) scM0_2 fullShare d11) ∗ (∃ r, prngReg c r))
  q _ := fullShare
  owed _ := 0

theorem dA_eq (c : Dev nD) (w : Fin cfg0.W) : (dats T c).A w = V m c (Pipeline.arrRef spec0 w) := by
  dsimp only [dats]

theorem after0_0 (c : Dev nD) (t : Fin cfg0.N) : (dats T c).after 0 t = iblk m c 0 t := by dsimp only [dats]
theorem after0_1 (c : Dev nD) (t : Fin cfg0.N) : (dats T c).after 1 t = iblk m c 1 t := by dsimp only [dats]
theorem after0_2 (c : Dev nD) (t : Fin cfg0.N) : (dats T c).after 2 t = iblk m c 2 t := by dsimp only [dats]
theorem after0_3 (c : Dev nD) (t : Fin cfg0.N) : (dats T c).after 3 t = iblk m c 3 t := by dsimp only [dats]
theorem after0_4 (c : Dev nD) (t : Fin cfg0.N) : (dats T c).after 4 t = iblk m c 4 t := by dsimp only [dats]
theorem after0_5 (c : Dev nD) (t : Fin cfg0.N) : (dats T c).after 5 t = iblk m c 5 t := by dsimp only [dats]

theorem before0_0 (c : Dev nD) (t : Fin cfg0.N) (d) : (dats T c).before 0 t d = iblk m c 0 t :=
  before0_0_of m (dats T c) (dA_eq T c 0) (after0_0 T c) t d
theorem before0_1 (c : Dev nD) (t : Fin cfg0.N) (d) : (dats T c).before 1 t d = iblk m c 1 t :=
  before0_1_of m (dats T c) (dA_eq T c 1) (after0_1 T c) t d
theorem before0_2 (c : Dev nD) (t : Fin cfg0.N) (d) : (dats T c).before 2 t d = iblk m c 2 t :=
  before0_2_of m (dats T c) (dA_eq T c 2) (after0_2 T c) t d
theorem before0_3 (c : Dev nD) (t : Fin cfg0.N) (d) : (dats T c).before 3 t d = iblk m c 3 t :=
  before0_3_of m (dats T c) (dA_eq T c 3) (after0_3 T c) t d
theorem before0_4 (c : Dev nD) (t : Fin cfg0.N) (d) : (dats T c).before 4 t d = iblk m c 4 t :=
  before0_4_of m (dats T c) (dA_eq T c 4) (after0_4 T c) t d
theorem before0_5 (c : Dev nD) (t : Fin cfg0.N) (d) : (dats T c).before 5 t d = iblk m c 5 t :=
  before0_5_of m (dats T c) (dA_eq T c 5) (after0_5 T c) t d

/-- The invariant opens to the tracked property over the scratch buffers. -/
theorem Phi_eq (c : Dev nD) (t : Fin (cfg0.N + 1)) : (dats T c).Φ t = iprop(iprop(∃ d9 d10 d11, ⌜T.Inv c t.val d9 d10 d11⌝ ∗ owns (c : Thread nD τ) scM0_0 fullShare d9
    ∗ owns (c : Thread nD τ) scM0_1 fullShare d10 ∗ owns (c : Thread nD τ) scM0_2 fullShare d11) ∗ (∃ r, prngReg c r)) := rfl

/-- What the body is called with at point `t`, the windows one by one, -/
def bodyPre (c : Dev nD) (t : Fin cfg0.N) : sProp 𝕄 :=
  iprop((dats T c).Φ t.castSucc ∗ (dats T c).owesAt () t.castSucc
    ∗ (∃ d, owns (c : Thread nD τ) (ms0_0 t) fullShare ((dats T c).before 0 t d))
    ∗ (∃ d, owns (c : Thread nD τ) (ms0_1 t) fullShare ((dats T c).before 1 t d))
    ∗ (∃ d, owns (c : Thread nD τ) (ms0_2 t) fullShare ((dats T c).before 2 t d))
    ∗ (∃ d, owns (c : Thread nD τ) (ms0_3 t) fullShare ((dats T c).before 3 t d))
    ∗ (∃ d, owns (c : Thread nD τ) (ms0_4 t) fullShare ((dats T c).before 4 t d))
    ∗ (∃ d, owns (c : Thread nD τ) (ms0_5 t) fullShare ((dats T c).before 5 t d))
    ∗ (∃ d, ⌜((dats T c).toRRel marked (Rl T c)).Finds 6 t d⌝ ∗ owns (c : Thread nD τ) (ms0_6 t) fullShare d))

/-- and what it returns. -/
def bodyPost (c : Dev nD) (t : Fin cfg0.N) : sProp 𝕄 :=
  iprop((dats T c).Φ t.succ ∗ (dats T c).owesAt () t.succ
    ∗ owns (c : Thread nD τ) (ms0_0 t) fullShare ((dats T c).after 0 t)
    ∗ owns (c : Thread nD τ) (ms0_1 t) fullShare ((dats T c).after 1 t)
    ∗ owns (c : Thread nD τ) (ms0_2 t) fullShare ((dats T c).after 2 t)
    ∗ owns (c : Thread nD τ) (ms0_3 t) fullShare ((dats T c).after 3 t)
    ∗ owns (c : Thread nD τ) (ms0_4 t) fullShare ((dats T c).after 4 t)
    ∗ owns (c : Thread nD τ) (ms0_5 t) fullShare ((dats T c).after 5 t)
    ∗ (∃ X, ⌜Rl T c 6 t X⌝ ∗ owns (c : Thread nD τ) (ms0_6 t) fullShare X))

set_option maxHeartbeats 3200000 in
/-- The body at any point carries the tracked property on and leaves an output block that meets its property. -/
theorem sound_body (c : Dev nD) (t : Fin cfg0.N) :
    bodyPre T c t ⊢ wp frame (wpE (defs₀ (F := F)) Variants.none c none) Set.univ (bodyAt0 t) (fun _ => bodyPost T c t) := by
  unfold bodyPre bodyPost bodyAt0
  simp only [before0_0, before0_1, before0_2, before0_3, before0_4, before0_5, after0_0, after0_1, after0_2, after0_3, after0_4, after0_5]
  rw [show (dats T c).owesAt () t.succ = (dats T c).owesAt () t.castSucc from rfl]
  rw [Phi_eq, Phi_eq]
  rw [show (t.castSucc.val : ℕ) = t.val from rfl, show (t.succ.val : ℕ) = t.val + 1 from rfl]
  iintro ⟨⟨⟨%d9, %d10, %d11, %hI, HS0, HS1, HS2⟩, Hg⟩, Ho, ⟨%d0, H0⟩, ⟨%d1, H1⟩, ⟨%d2, H2⟩, ⟨%d3, H3⟩, ⟨%d4, H4⟩, ⟨%d5, H5⟩, ⟨%d6, %hd6, H6⟩⟩
  by_cases h0 : t.val < 18
  · have h1 : ¬ 18 ≤ t.val := by omega
    by_cases h2 : t.val % 18 = 0
    · iapply (kernelRun0_A c (grid0.coords t) _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t) d6 d9 d10 d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · iexists _, _, _
          isplitr; swap
          · isplitl [HS0]
            · iexact HS0
            isplitl [HS1]
            · iexact HS1
            iexact HS2
          ipureintro; have := T.step c t d9 d10 d11 hI; simp only [h0, h2, if_true, if_false] at this; exact this
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _
      isplitr; swap
      · iexact H6
      ipureintro; exact T.any c t h0 _
    · iapply (kernelRun0_B c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) d6 d9 d10 d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · iexists _, _, _
          isplitr; swap
          · isplitl [HS0]
            · iexact HS0
            isplitl [HS1]
            · iexact HS1
            iexact HS2
          ipureintro; have := T.step c t d9 d10 d11 hI; simp only [h0, h2, if_true, if_false] at this; exact this
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _
      isplitr; swap
      · iexact H6
      ipureintro; exact T.any c t h0 _
  · have h1 : 18 ≤ t.val := by omega
    by_cases h2 : t.val % 18 = 0
    · iapply (kernelRun0_C c (grid0.coords t) _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) d6 d9 d10 d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · iexists _, _, _
          isplitr; swap
          · isplitl [HS0]
            · iexact HS0
            isplitl [HS1]
            · iexact HS1
            iexact HS2
          ipureintro; have := T.step c t d9 d10 d11 hI; simp only [h0, h2, if_true, if_false] at this; exact this
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _
      isplitr; swap
      · iexact H6
      ipureintro; exact T.out c t h1 _ d9 d10 d11 hI
    · iapply (kernelRun0_D c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) d6 d9 d10 d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · iexists _, _, _
          isplitr; swap
          · isplitl [HS0]
            · iexact HS0
            isplitl [HS1]
            · iexact HS1
            iexact HS2
          ipureintro; have := T.step c t d9 d10 d11 hI; simp only [h0, h2, if_true, if_false] at this; exact this
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _
      isplitr; swap
      · iexact H6
      ipureintro; exact T.out c t h1 _ d9 d10 d11 hI

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) :
    Pipeline.BodyObligationRel (dats T c) (defs₀ (F := F)) Variants.none () Set.univ marked (Rl T c) := fun t => by
  rw [bigSep_W0, bigSep_W0, defs₀_row]
  exact triple_restated (sound_body T c t) rfl .rfl fun _ => .rfl

end Cert.Kernel.Body

end
-- ==== Proof.K.Run.lean ====
/- The run of the whole program with a property tracked along the grid: the frame, and the result array as blocks that meet the property. -/
module

public import proofs.«01_k».proof.Proof.K.Track

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {m : (ℓ : Loc nD τ sig) → Buf (Elt F) ℓ} (ρ : Dev nD → PrngReg) (T : Track m)

/-- The relational proof data of the run. -/
abbrev rdat (c : Dev nD) : Pipeline.RDat τ (Elt F) Unit ℕ (UR sig nD τ) ℕ cfg0 c := (dats T c).toRRel marked (Rl T c)

theorem Phi_in (c : Dev nD) : Pipeline.ΦA spec0 c ⊢ (dats T c).Φ 0 := by
  rw [Phi_eq, PhiA0_eq]
  iintro ⟨⟨⟨%d9, HS0⟩, ⟨%d10, HS1⟩, ⟨%d11, HS2⟩⟩, Hg⟩
  isplitl [HS0 HS1 HS2]
  · iexists d9, d10, d11
    isplitr; · ipureintro; exact T.zero c d9 d10 d11
    isplitl [HS0]
    · iexact HS0
    isplitl [HS1]
    · iexact HS1
    iexact HS2
  iexact Hg

theorem Phi_out (c : Dev nD) (t : Fin (cfg0.N + 1)) : (dats T c).Φ t ⊢ Pipeline.ΦA spec0 c := by
  rw [Phi_eq, PhiA0_eq]
  iintro ⟨⟨%d9, %d10, %d11, %hI, HS0, HS1, HS2⟩, Hg⟩
  isplitl [HS0 HS1 HS2]
  · isplitl [HS0]
    · iexists d9; iexact HS0
    isplitl [HS1]
    · iexists d10; iexact HS1
    iexists d11; iexact HS2
  iexact Hg

set_option backward.isDefEq.respectTransparency.types false in
/-- Every fair run of the program ends, with the pipeline's arrays as the tracked data say and every semaphore counter at zero. -/
theorem run_main_quiescent : θ_run defs (onTc (τ := τ) (main (F := F))) (s₀ m ρ)
    (fun r => (Pipeline.RDat.FramePost (cfgs 0) (rdat T) (V m)) r ∧ r.2.sem = fun _ => 0) :=
  Pipeline.RDat.θ_run_frame_track (Q' := _) cfgs (0 : Fin 1) launch0 defs₀ Variants.none (rdat T) m ρ main
    (hbody := fun c => (body_obligation T c).toRRel) (hshare := fun c => (dats T c).share_full fun _ => rfl)
    (howed := fun _ _ => rfl) (V := V m) (hmain := hmain m Variants.none) (hA := dA_eq T) (hin := Phi_in T) (hout := fun c => Phi_out T c _)
    (hQ' := fun _ h => h)

/-- The arguments end unchanged and the counters at zero. -/
theorem frame (T : Track m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((dA_eq T c 1).trans (V_main_arg1 m c)),
      (Pipeline.RDat.FramePost.arr_in h.1 c 2 rfl).trans ((dA_eq T c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main_quiescent ρ T)

/-- Nothing tracked: what the frame alone needs. -/
def Track.trivial (m : (ℓ : Loc nD τ sig) → Buf (Elt F) ℓ) : Track m where
  Inv _ _ _ _ _ := True
  O _ _ _ := True
  zero _ _ _ _ := True.intro
  step _ _ _ _ _ _ := True.intro
  out _ _ _ _ _ _ _ _ := True.intro
  any _ _ _ _ := True.intro

set_option backward.isDefEq.respectTransparency.types false in
/-- The result array after the run: blocks that meet the output's property, written back over what the array held. -/
theorem result (r : PUnit × MemSt nD τ sig (Elt F)) (h : Pipeline.RDat.FramePost (cfgs 0) (rdat T) (V m) r) (c : Dev nD) :
    ∃ D : Dat τ (Elt F) Unit ℕ (UR sig nD τ) ℕ cfg0 c, (∀ u, (cfg0.win 6).flush u = true → T.O c u (D.after 6 u)) ∧
      r.2.mem ((c.tc : Thread nD τ).loc main_v7) = D.arrAt 6 cfg0.N := by
  obtain ⟨after, ha, hm⟩ := Pipeline.RDat.FramePost.exists_exact h c
  refine ⟨(rdat T c).withAfter after, fun u hu => ?_, ?_⟩
  · exact (dats T c).toRRel_leaves (fgt := marked) (Rl := Rl T c) (w := 6) rfl (ha 6 u hu)
  · exact hm 6

end Cert.Kernel.Body

end
-- ==== Proof.KI.Common.lean ====
/- What the four runs of the kernel body share: its three branch conditions over the grid points, the staging and scratch memrefs of a
   point, and the invariant of the frame spelt over the scratch memrefs. -/
module

public import proofs.«01_k».proof.Proof.Gen.KernelIdeal.Skeleton
public import proofs.«01_k».proof.Proof.Gen.KernelIdeal.Frame

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 18 — by arithmetic of the point. -/
theorem hcond0_0 : ∀ t : Fin cfg0.N, cond0_0 (grid0.coords t) ↔ t.val < 18 :=
  (fun t => by
    have ht : t.val < 306 := Nat.lt_of_lt_of_eq t.isLt N_0
    have e0 : (grid0.coords t 0).val = t.val / 18 % 17 := Pipeline.Grid.coords_val t 0 (by decide) rfl
    have e1 : (grid0.coords t 1).val = t.val / 1 % 18 := Pipeline.Grid.coords_val t 1 (by decide) rfl
    simp only [cond0_0, k0_cond1, e0, e1]
    word_cmp
   : ∀ t : Fin grid0.N, cond0_0 (grid0.coords t) ↔ t.val < 18)

/-- The condition of the body's `scf.if` 1 (`k0_h2`), from the grid coordinates (the skeleton's scalar
    chain substituted). -/
abbrev cond0_1 (i : grid0.Coords) : Prop := k0_cond2 i = 1#1
/-- It holds at the points from point 18 on — decided over the grid. -/
theorem hcond0_1 : ∀ t : Fin cfg0.N, cond0_1 (grid0.coords t) ↔ 18 ≤ t.val :=
  (by decide +kernel : ∀ t : Fin grid0.N, cond0_1 (grid0.coords t) ↔ 18 ≤ t.val)

/-- The condition of the body's `scf.if` 2 (`k0_h3`), from the grid coordinates (the skeleton's scalar
    chain substituted). -/
abbrev cond0_2 (i : grid0.Coords) : Prop := k0_cond3 i = 1#1
/-- It holds at the points ≡ 0 (mod 18) — by arithmetic of the point. -/
theorem hcond0_2 : ∀ t : Fin cfg0.N, cond0_2 (grid0.coords t) ↔ t.val % 18 = 0 :=
  (fun t => by
    have ht : t.val < 306 := Nat.lt_of_lt_of_eq t.isLt N_0
    have e0 : (grid0.coords t 0).val = t.val / 18 % 17 := Pipeline.Grid.coords_val t 0 (by decide) rfl
    have e1 : (grid0.coords t 1).val = t.val / 1 % 18 := Pipeline.Grid.coords_val t 1 (by decide) rfl
    simp only [cond0_2, k0_cond3, e0, e1]
    word_cmp
   : ∀ t : Fin grid0.N, cond0_2 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S192x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S112x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x6144x1024 .bf16 := Memref.whole cc0_scratch0
abbrev scM0_1 : Memref sig .tc .vmem S2x256x1024 .bf16 := Memref.whole cc0_scratch1
abbrev scM0_2 : Memref sig .tc .vmem S9216x256 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.KI.Spec.lean ====
/- What one grid point of the kernel body does to its buffers, as plain functions of what the buffers held: the block of rows it stores in
   the scratch of `h`, the six sub-blocks of dequantized weights it stores in one slot of the weight scratch, the stacked `b` block it
   stores in one slot of its scratch, and the output block. -/
module

public import proofs.«01_k».proof.Proof.KI.Common
public import Idealize.ShloMosaic.Lib.VecWindow

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The payload of one sub-block: 32 rows of packed codes and one row of scales make 64 rows of weights. -/
def blk (a : Vec F S1x1024 .f32) (p : Vec F S32x1024 .i8) : FVec F S1x64x1024 .bf16 :=
  k0_pay11 (k0_pay10 (k0_pay4 a) (k0_pay5 p) (k0_pay6 p) (k0_pay7 p) (k0_pay8 p) k0_pay9)

/-- Sub-block 1's payload as the body spells it. -/
def pay1 (a : Vec F S1x1024 .f32) (p : Vec F S32x1024 .i8) : FVec F S1x64x1024 .bf16 :=
  k0_pay20 (k0_pay12 a) (k0_pay14 p) (k0_pay15 p) (k0_pay16 p) (k0_pay17 p) (k0_pay18 p) (k0_pay19 p)
theorem pay1_eq (a : Vec F S1x1024 .f32) (p : Vec F S32x1024 .i8) : pay1 a p = blk a p := rfl

/-- Sub-block 2's payload as the body spells it. -/
def pay2 (a : Vec F S1x1024 .f32) (p : Vec F S32x1024 .i8) : FVec F S1x64x1024 .bf16 :=
  k0_pay28 (k0_pay21 a) (k0_pay23 p) (k0_pay24 p) (k0_pay25 p) (k0_pay26 p) (k0_pay27 p) (Scalar.ofBits .bf16 0x0000#16)
theorem pay2_eq (a : Vec F S1x1024 .f32) (p : Vec F S32x1024 .i8) : pay2 a p = blk a p := rfl

/-- Sub-block 3's payload as the body spells it. -/
def pay3 (a : Vec F S1x1024 .f32) (p : Vec F S32x1024 .i8) : FVec F S1x64x1024 .bf16 :=
  k0_pay40 (k0_pay29 a) (k0_pay32 (k0_pay30 p) k0_pay31) (k0_pay33 (k0_pay30 p)) (k0_pay34 (k0_pay30 p)) (k0_pay35 (k0_pay30 p)) (k0_pay36 (k0_pay30 p) k0_pay31) (k0_pay37 (k0_pay30 p) k0_pay31) k0_pay38 k0_pay39
theorem pay3_eq (a : Vec F S1x1024 .f32) (p : Vec F S32x1024 .i8) : pay3 a p = blk a p := rfl

/-- Sub-block 4's payload as the body spells it. -/
def pay4 (a : Vec F S1x1024 .f32) (p : Vec F S32x1024 .i8) : FVec F S1x64x1024 .bf16 :=
  k0_pay47 (k0_pay46 (k0_pay41 a) (k0_pay42 p) (k0_pay43 p) (k0_pay44 p) (k0_pay45 p) 0#16)
theorem pay4_eq (a : Vec F S1x1024 .f32) (p : Vec F S32x1024 .i8) : pay4 a p = blk a p := rfl

/-- Sub-block 5's payload as the body spells it. -/
def pay5 (a : Vec F S1x1024 .f32) (p : Vec F S32x1024 .i8) : FVec F S1x64x1024 .bf16 :=
  k0_pay55 (k0_pay48 a) (k0_pay50 p) (k0_pay51 p) (k0_pay52 p) (k0_pay53 p) (k0_pay54 p) (Scalar.ofBits .bf16 0x3F10#16)
theorem pay5_eq (a : Vec F S1x1024 .f32) (p : Vec F S32x1024 .i8) : pay5 a p = blk a p := rfl

/-- The row of scales that sub-block `r` reads. -/
abbrev scl (i : grid0.Coords) (x2 : Vec F S96x1024 .f32) (r : Fin 6) : Vec F S1x1024 .f32 :=
  View.ld x2 (Rect.unit (s := S96x1024) (k0_off5 i (BitVec.ofNat 32 r.val)) S1x1024.size (k0_off5_inb i r))

/-- The weight scratch after the body: six sub-blocks put over what it held. -/
def wNext (i : grid0.Coords) (x1 : Vec F S192x1024 .i8) (x2 : Vec F S96x1024 .f32) (d : Vec F S2x6144x1024 .bf16) : Vec F S2x6144x1024 .bf16 :=
  VecWindow.put (VecWindow.put (VecWindow.put (VecWindow.put (VecWindow.put (VecWindow.put d
    (k0_off6 i 0#32) S1x64x1024.size (blk (scl i x2 0) (View.ld x1 (Rect.unit (s := S192x1024) ![0, 0] S32x1024.size inb_S192x1024_S32x1024_0_0))))
    (k0_off6 i 64#32) S1x64x1024.size (pay1 (scl i x2 1) (View.ld x1 (Rect.unit (s := S192x1024) ![32, 0] S32x1024.size inb_S192x1024_S32x1024_32_0))))
    (k0_off6 i 128#32) S1x64x1024.size (pay2 (scl i x2 2) (View.ld x1 (Rect.unit (s := S192x1024) ![64, 0] S32x1024.size inb_S192x1024_S32x1024_64_0))))
    (k0_off6 i 192#32) S1x64x1024.size (pay3 (scl i x2 3) (View.ld x1 (Rect.unit (s := S192x1024) ![96, 0] S32x1024.size inb_S192x1024_S32x1024_96_0))))
    (k0_off6 i 256#32) S1x64x1024.size (pay4 (scl i x2 4) (View.ld x1 (Rect.unit (s := S192x1024) ![128, 0] S32x1024.size inb_S192x1024_S32x1024_128_0))))
    (k0_off6 i 320#32) S1x64x1024.size (pay5 (scl i x2 5) (View.ld x1 (Rect.unit (s := S192x1024) ![160, 0] S32x1024.size inb_S192x1024_S32x1024_160_0)))

/-- The same with every sub-block's payload spelt one way. -/
theorem wNext_eq (i : grid0.Coords) (x1 : Vec F S192x1024 .i8) (x2 : Vec F S96x1024 .f32) (d : Vec F S2x6144x1024 .bf16) : wNext i x1 x2 d =
  VecWindow.put (VecWindow.put (VecWindow.put (VecWindow.put (VecWindow.put (VecWindow.put d
    (k0_off6 i 0#32) S1x64x1024.size (blk (scl i x2 0) (View.ld x1 (Rect.unit (s := S192x1024) ![0, 0] S32x1024.size inb_S192x1024_S32x1024_0_0))))
    (k0_off6 i 64#32) S1x64x1024.size (blk (scl i x2 1) (View.ld x1 (Rect.unit (s := S192x1024) ![32, 0] S32x1024.size inb_S192x1024_S32x1024_32_0))))
    (k0_off6 i 128#32) S1x64x1024.size (blk (scl i x2 2) (View.ld x1 (Rect.unit (s := S192x1024) ![64, 0] S32x1024.size inb_S192x1024_S32x1024_64_0))))
    (k0_off6 i 192#32) S1x64x1024.size (blk (scl i x2 3) (View.ld x1 (Rect.unit (s := S192x1024) ![96, 0] S32x1024.size inb_S192x1024_S32x1024_96_0))))
    (k0_off6 i 256#32) S1x64x1024.size (blk (scl i x2 4) (View.ld x1 (Rect.unit (s := S192x1024) ![128, 0] S32x1024.size inb_S192x1024_S32x1024_128_0))))
    (k0_off6 i 320#32) S1x64x1024.size (blk (scl i x2 5) (View.ld x1 (Rect.unit (s := S192x1024) ![160, 0] S32x1024.size inb_S192x1024_S32x1024_160_0))) := by
  unfold wNext
  rw [pay1_eq, pay2_eq, pay3_eq, pay4_eq, pay5_eq]

/-- The scratch of `h` after the body where it stores there. -/
def hNext (i : grid0.Coords) (x0 : Vec F S512x6144 .bf16) (x3 : Vec F S6144x256 .bf16) (x5 : Vec F S512x1 .i32) (d : Vec F S9216x256 .bf16) :
    Vec F S9216x256 .bf16 :=
  VecWindow.put d (k0_off1 i) S512x256.size (k0_pay2 x0 x3 x5)

/-- The scratch of the stacked `b` blocks after the body where it stores there. -/
def bNext (i : grid0.Coords) (x4 : Vec F S112x1024 .bf16) (d : Vec F S2x256x1024 .bf16) : Vec F S2x256x1024 .bf16 :=
  VecWindow.put d (k0_off7 i) S1x256x1024.size (k0_pay1 x4)

/-- The output block where the body stores it. -/
def oNext (i : grid0.Coords) (hc : cond0_1 i) (x0 : Vec F S512x6144 .bf16) (d9 : Vec F S2x6144x1024 .bf16) (d10 : Vec F S2x256x1024 .bf16)
    (d11 : Vec F S9216x256 .bf16) : Vec F S512x1024 .bf16 :=
  k0_pay3 x0 (View.ld d9 (Rect.unit (s := S2x6144x1024) (k0_off2 i) S1x6144x1024.size (k0_off2_inb i hc)))
    (View.ld d11 (Rect.unit (s := S9216x256) (k0_off3 i) S512x256.size (k0_off3_inb i hc)))
    (View.ld d10 (Rect.unit (s := S2x256x1024) (k0_off4 i) S1x256x1024.size (k0_off4_inb i hc)))

end Cert.KernelIdeal.Body

end
-- ==== Proof.KI.RunA.lean ====
/- The run of the kernel body at the first point, where the body stores `h` rows and the `b` block: what each buffer holds after it, as the functions of Spec. -/
module

public import proofs.«01_k».proof.Proof.KI.Spec

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: the inputs come back as they were, the other buffers at the functions of Spec. -/
theorem kernelRun0_A (c : Dev nD) (i : grid0.Coords) (arg2 : Memref sig .tc .vmem S512x6144 .bf16) (harg2 : arg2.IsWhole) (arg3 : Memref sig .tc .vmem S192x1024 .i8) (harg3 : arg3.IsWhole) (arg4 : Memref sig .tc .vmem S96x1024 .f32) (harg4 : arg4.IsWhole) (arg5 : Memref sig .tc .vmem S6144x256 .bf16) (harg5 : arg5.IsWhole) (arg6 : Memref sig .tc .vmem S112x1024 .bf16) (harg6 : arg6.IsWhole) (arg7 : Memref sig .tc .vmem S512x1 .i32) (harg7 : arg7.IsWhole) (arg8 : Memref sig .tc .vmem S512x1024 .bf16) (harg8 : arg8.IsWhole) (arg9 : Memref sig .tc .vmem S2x6144x1024 .bf16) (harg9 : arg9.IsWhole) (arg10 : Memref sig .tc .vmem S2x256x1024 .bf16) (harg10 : arg10.IsWhole) (arg11 : Memref sig .tc .vmem S9216x256 .bf16) (harg11 : arg11.IsWhole) (hc0 : cond0_0 i) (hc1 : ¬cond0_1 i) (hc2 : cond0_2 i)
    (x0 : Vec F S512x6144 .bf16) (x1 : Vec F S192x1024 .i8) (x2 : Vec F S96x1024 .f32) (x3 : Vec F S6144x256 .bf16) (x4 : Vec F S112x1024 .bf16) (x5 : Vec F S512x1 .i32)
    (d8 : Vec F S512x1024 .bf16) (d9 : Vec F S2x6144x1024 .bf16) (d10 : Vec F S2x256x1024 .bf16) (d11 : Vec F S9216x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare (wNext i x1 x2 d9) ∗ owns (c : Thread nD τ) arg10 fullShare (bNext i x4 d10) ∗ owns (c : Thread nD τ) arg11 fullShare (hNext i x0 x3 x5 d11)) -∗ K ⟨⟩))
          ⊢ wp frame (wpE (defs₀ (F := F)) Variants.none c none) E (cc0_qlora_nf4 i arg2 harg2 arg3 harg3 arg4 harg4 arg5 harg5 arg6 harg6 arg7 harg7 arg8 harg8 arg9 harg9 arg10 harg10 arg11 harg11) K := by
    intro E K
    simp only [cc0_qlora_nf4_eq_skeleton]; unfold cc0_qlora_nf4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    subst hf6 hs0 hs1 hs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rfl
    isplitl [HS0]
    · iexists _; isplitr; swap; · iexact HS0
      ipureintro; sl_unfold_run_names; iterate 6 rw [View.read_writes_cons_put _ _ _ _ _ rfl]
      rw [View.writes_nil]; conv_rhs => rw [← hf1, ← hf2]
      rfl
    isplitl [HS1]
    · iexists _; isplitr; swap; · iexact HS1
      ipureintro; rw [View.read_writes_cons_put _ _ _ _ _ rfl, View.writes_nil, View.readAt_full arg6.view _ inb_S112x1024_S112x1024_0_0, harg6.read_unread]; rfl
    iexists _; isplitr; swap; · iexact HS2
    ipureintro; rw [View.read_writes_cons_put _ _ _ _ _ rfl, View.writes_nil, View.readAt_full arg2.view _ inb_S512x6144_S512x6144_0_0, View.readAt_full arg5.view _ inb_S6144x256_S6144x256_0_0, View.readAt_full arg7.view _ inb_S512x1_S512x1_0_0, harg2.read_unread, harg5.read_unread, harg7.read_unread]; rfl

end Cert.KernelIdeal.Body

end
-- ==== Proof.KI.RunB.lean ====
/- The run of the kernel body at the other points of the first column, where it stores `h` rows: what each buffer holds after it, as the functions of Spec. -/
module

public import proofs.«01_k».proof.Proof.KI.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: the inputs come back as they were, the other buffers at the functions of Spec. -/
theorem kernelRun0_B (c : Dev nD) (i : grid0.Coords) (arg2 : Memref sig .tc .vmem S512x6144 .bf16) (harg2 : arg2.IsWhole) (arg3 : Memref sig .tc .vmem S192x1024 .i8) (harg3 : arg3.IsWhole) (arg4 : Memref sig .tc .vmem S96x1024 .f32) (harg4 : arg4.IsWhole) (arg5 : Memref sig .tc .vmem S6144x256 .bf16) (harg5 : arg5.IsWhole) (arg6 : Memref sig .tc .vmem S112x1024 .bf16) (harg6 : arg6.IsWhole) (arg7 : Memref sig .tc .vmem S512x1 .i32) (harg7 : arg7.IsWhole) (arg8 : Memref sig .tc .vmem S512x1024 .bf16) (harg8 : arg8.IsWhole) (arg9 : Memref sig .tc .vmem S2x6144x1024 .bf16) (harg9 : arg9.IsWhole) (arg10 : Memref sig .tc .vmem S2x256x1024 .bf16) (harg10 : arg10.IsWhole) (arg11 : Memref sig .tc .vmem S9216x256 .bf16) (harg11 : arg11.IsWhole) (hc0 : cond0_0 i) (hc1 : ¬cond0_1 i) (hc2 : ¬cond0_2 i)
    (x0 : Vec F S512x6144 .bf16) (x1 : Vec F S192x1024 .i8) (x2 : Vec F S96x1024 .f32) (x3 : Vec F S6144x256 .bf16) (x4 : Vec F S112x1024 .bf16) (x5 : Vec F S512x1 .i32)
    (d8 : Vec F S512x1024 .bf16) (d9 : Vec F S2x6144x1024 .bf16) (d10 : Vec F S2x256x1024 .bf16) (d11 : Vec F S9216x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare (wNext i x1 x2 d9) ∗ owns (c : Thread nD τ) arg10 fullShare d10 ∗ owns (c : Thread nD τ) arg11 fullShare (hNext i x0 x3 x5 d11)) -∗ K ⟨⟩))
          ⊢ wp frame (wpE (defs₀ (F := F)) Variants.none c none) E (cc0_qlora_nf4 i arg2 harg2 arg3 harg3 arg4 harg4 arg5 harg5 arg6 harg6 arg7 harg7 arg8 harg8 arg9 harg9 arg10 harg10 arg11 harg11) K := by
    intro E K
    simp only [cc0_qlora_nf4_eq_skeleton]; unfold cc0_qlora_nf4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    subst hf6 hs0 hs1 hs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rfl
    isplitl [HS0]
    · iexists _; isplitr; swap; · iexact HS0
      ipureintro; sl_unfold_run_names; iterate 6 rw [View.read_writes_cons_put _ _ _ _ _ rfl]
      rw [View.writes_nil]; conv_rhs => rw [← hf1, ← hf2]
      rfl
    isplitl [HS1]
    · iexists _; isplitr; swap; · iexact HS1
      ipureintro; rfl
    iexists _; isplitr; swap; · iexact HS2
    ipureintro; rw [View.read_writes_cons_put _ _ _ _ _ rfl, View.writes_nil, View.readAt_full arg2.view _ inb_S512x6144_S512x6144_0_0, View.readAt_full arg5.view _ inb_S6144x256_S6144x256_0_0, View.readAt_full arg7.view _ inb_S512x1_S512x1_0_0, harg2.read_unread, harg5.read_unread, harg7.read_unread]; rfl

end Cert.KernelIdeal.Body

end
-- ==== Proof.KI.RunC.lean ====
/- The run of the kernel body at the first point of a later column, where it stores the output block and the `b` block: what each buffer holds after it, as the functions of Spec. -/
module

public import proofs.«01_k».proof.Proof.KI.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: the inputs come back as they were, the other buffers at the functions of Spec. -/
theorem kernelRun0_C (c : Dev nD) (i : grid0.Coords) (arg2 : Memref sig .tc .vmem S512x6144 .bf16) (harg2 : arg2.IsWhole) (arg3 : Memref sig .tc .vmem S192x1024 .i8) (harg3 : arg3.IsWhole) (arg4 : Memref sig .tc .vmem S96x1024 .f32) (harg4 : arg4.IsWhole) (arg5 : Memref sig .tc .vmem S6144x256 .bf16) (harg5 : arg5.IsWhole) (arg6 : Memref sig .tc .vmem S112x1024 .bf16) (harg6 : arg6.IsWhole) (arg7 : Memref sig .tc .vmem S512x1 .i32) (harg7 : arg7.IsWhole) (arg8 : Memref sig .tc .vmem S512x1024 .bf16) (harg8 : arg8.IsWhole) (arg9 : Memref sig .tc .vmem S2x6144x1024 .bf16) (harg9 : arg9.IsWhole) (arg10 : Memref sig .tc .vmem S2x256x1024 .bf16) (harg10 : arg10.IsWhole) (arg11 : Memref sig .tc .vmem S9216x256 .bf16) (harg11 : arg11.IsWhole) (hc0 : ¬cond0_0 i) (hc1 : cond0_1 i) (hc2 : cond0_2 i)
    (x0 : Vec F S512x6144 .bf16) (x1 : Vec F S192x1024 .i8) (x2 : Vec F S96x1024 .f32) (x3 : Vec F S6144x256 .bf16) (x4 : Vec F S112x1024 .bf16) (x5 : Vec F S512x1 .i32)
    (d8 : Vec F S512x1024 .bf16) (d9 : Vec F S2x6144x1024 .bf16) (d10 : Vec F S2x256x1024 .bf16) (d11 : Vec F S9216x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (oNext i hc1 x0 d9 d10 d11) ∗ owns (c : Thread nD τ) arg9 fullShare (wNext i x1 x2 d9) ∗ owns (c : Thread nD τ) arg10 fullShare (bNext i x4 d10) ∗ owns (c : Thread nD τ) arg11 fullShare d11) -∗ K ⟨⟩))
          ⊢ wp frame (wpE (defs₀ (F := F)) Variants.none c none) E (cc0_qlora_nf4 i arg2 harg2 arg3 harg3 arg4 harg4 arg5 harg5 arg6 harg6 arg7 harg7 arg8 harg8 arg9 harg9 arg10 harg10 arg11 harg11) K := by
    intro E K
    simp only [cc0_qlora_nf4_eq_skeleton]; unfold cc0_qlora_nf4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    subst hf6 hs0 hs1 hs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rw [View.read_writes_full arg8.view _ inb_S512x1024_S512x1024_0_0, View.readAt_full arg2.view _ inb_S512x6144_S512x6144_0_0, harg2.read_unread]; rfl
    isplitl [HS0]
    · iexists _; isplitr; swap; · iexact HS0
      ipureintro; sl_unfold_run_names; iterate 6 rw [View.read_writes_cons_put _ _ _ _ _ rfl]
      rw [View.writes_nil]; conv_rhs => rw [← hf1, ← hf2]
      rfl
    isplitl [HS1]
    · iexists _; isplitr; swap; · iexact HS1
      ipureintro; rw [View.read_writes_cons_put _ _ _ _ _ rfl, View.writes_nil, View.readAt_full arg6.view _ inb_S112x1024_S112x1024_0_0, harg6.read_unread]; rfl
    iexists _; isplitr; swap; · iexact HS2
    ipureintro; rfl

end Cert.KernelIdeal.Body

end
-- ==== Proof.KI.RunD.lean ====
/- The run of the kernel body at every other point, where it stores the output block: what each buffer holds after it, as the functions of Spec. -/
module

public import proofs.«01_k».proof.Proof.KI.RunC

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple: the inputs come back as they were, the other buffers at the functions of Spec. -/
theorem kernelRun0_D (c : Dev nD) (i : grid0.Coords) (arg2 : Memref sig .tc .vmem S512x6144 .bf16) (harg2 : arg2.IsWhole) (arg3 : Memref sig .tc .vmem S192x1024 .i8) (harg3 : arg3.IsWhole) (arg4 : Memref sig .tc .vmem S96x1024 .f32) (harg4 : arg4.IsWhole) (arg5 : Memref sig .tc .vmem S6144x256 .bf16) (harg5 : arg5.IsWhole) (arg6 : Memref sig .tc .vmem S112x1024 .bf16) (harg6 : arg6.IsWhole) (arg7 : Memref sig .tc .vmem S512x1 .i32) (harg7 : arg7.IsWhole) (arg8 : Memref sig .tc .vmem S512x1024 .bf16) (harg8 : arg8.IsWhole) (arg9 : Memref sig .tc .vmem S2x6144x1024 .bf16) (harg9 : arg9.IsWhole) (arg10 : Memref sig .tc .vmem S2x256x1024 .bf16) (harg10 : arg10.IsWhole) (arg11 : Memref sig .tc .vmem S9216x256 .bf16) (harg11 : arg11.IsWhole) (hc0 : ¬cond0_0 i) (hc1 : cond0_1 i) (hc2 : ¬cond0_2 i)
    (x0 : Vec F S512x6144 .bf16) (x1 : Vec F S192x1024 .i8) (x2 : Vec F S96x1024 .f32) (x3 : Vec F S6144x256 .bf16) (x4 : Vec F S112x1024 .bf16) (x5 : Vec F S512x1 .i32)
    (d8 : Vec F S512x1024 .bf16) (d9 : Vec F S2x6144x1024 .bf16) (d10 : Vec F S2x256x1024 .bf16) (d11 : Vec F S9216x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (oNext i hc1 x0 d9 d10 d11) ∗ owns (c : Thread nD τ) arg9 fullShare (wNext i x1 x2 d9) ∗ owns (c : Thread nD τ) arg10 fullShare d10 ∗ owns (c : Thread nD τ) arg11 fullShare d11) -∗ K ⟨⟩))
          ⊢ wp frame (wpE (defs₀ (F := F)) Variants.none c none) E (cc0_qlora_nf4 i arg2 harg2 arg3 harg3 arg4 harg4 arg5 harg5 arg6 harg6 arg7 harg7 arg8 harg8 arg9 harg9 arg10 harg10 arg11 harg11) K := by
    intro E K
    simp only [cc0_qlora_nf4_eq_skeleton]; unfold cc0_qlora_nf4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    subst hf6 hs0 hs1 hs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rw [View.read_writes_full arg8.view _ inb_S512x1024_S512x1024_0_0, View.readAt_full arg2.view _ inb_S512x6144_S512x6144_0_0, harg2.read_unread]; rfl
    isplitl [HS0]
    · iexists _; isplitr; swap; · iexact HS0
      ipureintro; sl_unfold_run_names; iterate 6 rw [View.read_writes_cons_put _ _ _ _ _ rfl]
      rw [View.writes_nil]; conv_rhs => rw [← hf1, ← hf2]
      rfl
    isplitl [HS1]
    · iexists _; isplitr; swap; · iexact HS1
      ipureintro; rfl
    iexists _; isplitr; swap; · iexact HS2
    ipureintro; rfl

end Cert.KernelIdeal.Body

end
-- ==== Proof.KI.Track.lean ====
/- The body obligation of the pipeline with a property tracked along the grid: what the scratch buffers hold before each point and
   what the output block holds after it. -/
module

public import proofs.«01_k».proof.Proof.KI.RunD
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is tracked along the grid: a property of the three scratch buffers before every point, which holds of anything before point 0 and
    which the body carries from one point to the next, and a property of the output block that it gives where the body stores the block. -/
structure Track where
  /-- the property of the scratch buffers before a point -/
  Inv : Dev nD → ℕ → Vec F S2x6144x1024 .bf16 → Vec F S2x256x1024 .bf16 → Vec F S9216x256 .bf16 → Prop
  /-- the property of the output block that the body leaves at a point -/
  O : Dev nD → Fin cfg0.N → Vec F S512x1024 .bf16 → Prop
  zero : ∀ c d9 d10 d11, Inv c 0 d9 d10 d11
  step : ∀ c (t : Fin cfg0.N) d9 d10 d11, Inv c t.val d9 d10 d11 →
    Inv c (t.val + 1) (wNext (grid0.coords t) (iblk m c 1 t) (iblk m c 2 t) d9)
      (if t.val % 18 = 0 then bNext (grid0.coords t) (iblk m c 4 t) d10 else d10)
      (if t.val < 18 then hNext (grid0.coords t) (iblk m c 0 t) (iblk m c 3 t) (iblk m c 5 t) d11 else d11)
  out : ∀ c (t : Fin cfg0.N), 18 ≤ t.val → ∀ (hc : cond0_1 (grid0.coords t)) d9 d10 d11, Inv c t.val d9 d10 d11 →
    O c t (oNext (grid0.coords t) hc (iblk m c 0 t) d9 d10 d11)
  any : ∀ c (t : Fin cfg0.N), t.val < 18 → ∀ d, O c t d

variable {m} (T : Track m)

/-- Only the output window is held to a property; the inputs' blocks are exact. -/
def marked : Fin 7 → Bool := fun w => w.val == 6

/-- The property that each window is held to. -/
def Rl (c : Dev nD) (w : Fin cfg0.W) (t : Fin cfg0.N) : ((cfg0.win w).block.Idx → Elt F (cfg0.win w).elt) → Prop :=
  match w with
  | ⟨6, _⟩ => fun X => T.O c t X
  | _ => fun _ => True

/-- The proof data: the inputs' buffers at their blocks, the output's not named; the tracked property over the scratch. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := iprop(iprop(∃ d9 d10 d11, ⌜T.Inv c t.val d9 d10 d11⌝ ∗ owns (c : Thread nD τ) scM0_0 fullShare d9 ∗ owns (c : Thread nD τ) scM0_1 fullShare d10
      ∗ owns (c : Thread nD τ) scM0_2 fullShare d11) ∗ (∃ r, prngReg c r))
  q _ := fullShare
  owed _ := 0

theorem dA_eq (c : Dev nD) (w : Fin cfg0.W) : (dats T c).A w = V m c (Pipeline.arrRef spec0 w) := by
  dsimp only [dats]

theorem after0_0 (c : Dev nD) (t : Fin cfg0.N) : (dats T c).after 0 t = iblk m c 0 t := by dsimp only [dats]
theorem after0_1 (c : Dev nD) (t : Fin cfg0.N) : (dats T c).after 1 t = iblk m c 1 t := by dsimp only [dats]
theorem after0_2 (c : Dev nD) (t : Fin cfg0.N) : (dats T c).after 2 t = iblk m c 2 t := by dsimp only [dats]
theorem after0_3 (c : Dev nD) (t : Fin cfg0.N) : (dats T c).after 3 t = iblk m c 3 t := by dsimp only [dats]
theorem after0_4 (c : Dev nD) (t : Fin cfg0.N) : (dats T c).after 4 t = iblk m c 4 t := by dsimp only [dats]
theorem after0_5 (c : Dev nD) (t : Fin cfg0.N) : (dats T c).after 5 t = iblk m c 5 t := by dsimp only [dats]

theorem before0_0 (c : Dev nD) (t : Fin cfg0.N) (d) : (dats T c).before 0 t d = iblk m c 0 t :=
  before0_0_of m (dats T c) (dA_eq T c 0) (after0_0 T c) t d
theorem before0_1 (c : Dev nD) (t : Fin cfg0.N) (d) : (dats T c).before 1 t d = iblk m c 1 t :=
  before0_1_of m (dats T c) (dA_eq T c 1) (after0_1 T c) t d
theorem before0_2 (c : Dev nD) (t : Fin cfg0.N) (d) : (dats T c).before 2 t d = iblk m c 2 t :=
  before0_2_of m (dats T c) (dA_eq T c 2) (after0_2 T c) t d
theorem before0_3 (c : Dev nD) (t : Fin cfg0.N) (d) : (dats T c).before 3 t d = iblk m c 3 t :=
  before0_3_of m (dats T c) (dA_eq T c 3) (after0_3 T c) t d
theorem before0_4 (c : Dev nD) (t : Fin cfg0.N) (d) : (dats T c).before 4 t d = iblk m c 4 t :=
  before0_4_of m (dats T c) (dA_eq T c 4) (after0_4 T c) t d
theorem before0_5 (c : Dev nD) (t : Fin cfg0.N) (d) : (dats T c).before 5 t d = iblk m c 5 t :=
  before0_5_of m (dats T c) (dA_eq T c 5) (after0_5 T c) t d

/-- The invariant opens to the tracked property over the scratch buffers. -/
theorem Phi_eq (c : Dev nD) (t : Fin (cfg0.N + 1)) : (dats T c).Φ t = iprop(iprop(∃ d9 d10 d11, ⌜T.Inv c t.val d9 d10 d11⌝ ∗ owns (c : Thread nD τ) scM0_0 fullShare d9
    ∗ owns (c : Thread nD τ) scM0_1 fullShare d10 ∗ owns (c : Thread nD τ) scM0_2 fullShare d11) ∗ (∃ r, prngReg c r)) := rfl

/-- What the body is called with at point `t`, the windows one by one, -/
def bodyPre (c : Dev nD) (t : Fin cfg0.N) : sProp 𝕄 :=
  iprop((dats T c).Φ t.castSucc ∗ (dats T c).owesAt () t.castSucc
    ∗ (∃ d, owns (c : Thread nD τ) (ms0_0 t) fullShare ((dats T c).before 0 t d))
    ∗ (∃ d, owns (c : Thread nD τ) (ms0_1 t) fullShare ((dats T c).before 1 t d))
    ∗ (∃ d, owns (c : Thread nD τ) (ms0_2 t) fullShare ((dats T c).before 2 t d))
    ∗ (∃ d, owns (c : Thread nD τ) (ms0_3 t) fullShare ((dats T c).before 3 t d))
    ∗ (∃ d, owns (c : Thread nD τ) (ms0_4 t) fullShare ((dats T c).before 4 t d))
    ∗ (∃ d, owns (c : Thread nD τ) (ms0_5 t) fullShare ((dats T c).before 5 t d))
    ∗ (∃ d, ⌜((dats T c).toRRel marked (Rl T c)).Finds 6 t d⌝ ∗ owns (c : Thread nD τ) (ms0_6 t) fullShare d))

/-- and what it returns. -/
def bodyPost (c : Dev nD) (t : Fin cfg0.N) : sProp 𝕄 :=
  iprop((dats T c).Φ t.succ ∗ (dats T c).owesAt () t.succ
    ∗ owns (c : Thread nD τ) (ms0_0 t) fullShare ((dats T c).after 0 t)
    ∗ owns (c : Thread nD τ) (ms0_1 t) fullShare ((dats T c).after 1 t)
    ∗ owns (c : Thread nD τ) (ms0_2 t) fullShare ((dats T c).after 2 t)
    ∗ owns (c : Thread nD τ) (ms0_3 t) fullShare ((dats T c).after 3 t)
    ∗ owns (c : Thread nD τ) (ms0_4 t) fullShare ((dats T c).after 4 t)
    ∗ owns (c : Thread nD τ) (ms0_5 t) fullShare ((dats T c).after 5 t)
    ∗ (∃ X, ⌜Rl T c 6 t X⌝ ∗ owns (c : Thread nD τ) (ms0_6 t) fullShare X))

set_option maxHeartbeats 3200000 in
/-- The body at any point carries the tracked property on and leaves an output block that meets its property. -/
theorem sound_body (c : Dev nD) (t : Fin cfg0.N) :
    bodyPre T c t ⊢ wp frame (wpE (defs₀ (F := F)) Variants.none c none) Set.univ (bodyAt0 t) (fun _ => bodyPost T c t) := by
  unfold bodyPre bodyPost bodyAt0
  simp only [before0_0, before0_1, before0_2, before0_3, before0_4, before0_5, after0_0, after0_1, after0_2, after0_3, after0_4, after0_5]
  rw [show (dats T c).owesAt () t.succ = (dats T c).owesAt () t.castSucc from rfl]
  rw [Phi_eq, Phi_eq]
  rw [show (t.castSucc.val : ℕ) = t.val from rfl, show (t.succ.val : ℕ) = t.val + 1 from rfl]
  iintro ⟨⟨⟨%d9, %d10, %d11, %hI, HS0, HS1, HS2⟩, Hg⟩, Ho, ⟨%d0, H0⟩, ⟨%d1, H1⟩, ⟨%d2, H2⟩, ⟨%d3, H3⟩, ⟨%d4, H4⟩, ⟨%d5, H5⟩, ⟨%d6, %hd6, H6⟩⟩
  by_cases h0 : t.val < 18
  · have h1 : ¬ 18 ≤ t.val := by omega
    by_cases h2 : t.val % 18 = 0
    · iapply (kernelRun0_A c (grid0.coords t) _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t) d6 d9 d10 d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · iexists _, _, _
          isplitr; swap
          · isplitl [HS0]
            · iexact HS0
            isplitl [HS1]
            · iexact HS1
            iexact HS2
          ipureintro; have := T.step c t d9 d10 d11 hI; simp only [h0, h2, if_true, if_false] at this; exact this
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _
      isplitr; swap
      · iexact H6
      ipureintro; exact T.any c t h0 _
    · iapply (kernelRun0_B c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) d6 d9 d10 d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · iexists _, _, _
          isplitr; swap
          · isplitl [HS0]
            · iexact HS0
            isplitl [HS1]
            · iexact HS1
            iexact HS2
          ipureintro; have := T.step c t d9 d10 d11 hI; simp only [h0, h2, if_true, if_false] at this; exact this
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _
      isplitr; swap
      · iexact H6
      ipureintro; exact T.any c t h0 _
  · have h1 : 18 ≤ t.val := by omega
    by_cases h2 : t.val % 18 = 0
    · iapply (kernelRun0_C c (grid0.coords t) _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) d6 d9 d10 d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · iexists _, _, _
          isplitr; swap
          · isplitl [HS0]
            · iexact HS0
            isplitl [HS1]
            · iexact HS1
            iexact HS2
          ipureintro; have := T.step c t d9 d10 d11 hI; simp only [h0, h2, if_true, if_false] at this; exact this
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _
      isplitr; swap
      · iexact H6
      ipureintro; exact T.out c t h1 _ d9 d10 d11 hI
    · iapply (kernelRun0_D c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) d6 d9 d10 d11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · iexists _, _, _
          isplitr; swap
          · isplitl [HS0]
            · iexact HS0
            isplitl [HS1]
            · iexact HS1
            iexact HS2
          ipureintro; have := T.step c t d9 d10 d11 hI; simp only [h0, h2, if_true, if_false] at this; exact this
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _
      isplitr; swap
      · iexact H6
      ipureintro; exact T.out c t h1 _ d9 d10 d11 hI

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) :
    Pipeline.BodyObligationRel (dats T c) (defs₀ (F := F)) Variants.none () Set.univ marked (Rl T c) := fun t => by
  rw [bigSep_W0, bigSep_W0, defs₀_row]
  exact triple_restated (sound_body T c t) rfl .rfl fun _ => .rfl

end Cert.KernelIdeal.Body

end
-- ==== Proof.KI.Run.lean ====
/- The run of the whole program with a property tracked along the grid: the frame, and the result array as blocks that meet the property. -/
module

public import proofs.«01_k».proof.Proof.KI.Track

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {m : (ℓ : Loc nD τ sig) → Buf (Elt F) ℓ} (ρ : Dev nD → PrngReg) (T : Track m)

/-- The relational proof data of the run. -/
abbrev rdat (c : Dev nD) : Pipeline.RDat τ (Elt F) Unit ℕ (UR sig nD τ) ℕ cfg0 c := (dats T c).toRRel marked (Rl T c)

theorem Phi_in (c : Dev nD) : Pipeline.ΦA spec0 c ⊢ (dats T c).Φ 0 := by
  rw [Phi_eq, PhiA0_eq]
  iintro ⟨⟨⟨%d9, HS0⟩, ⟨%d10, HS1⟩, ⟨%d11, HS2⟩⟩, Hg⟩
  isplitl [HS0 HS1 HS2]
  · iexists d9, d10, d11
    isplitr; · ipureintro; exact T.zero c d9 d10 d11
    isplitl [HS0]
    · iexact HS0
    isplitl [HS1]
    · iexact HS1
    iexact HS2
  iexact Hg

theorem Phi_out (c : Dev nD) (t : Fin (cfg0.N + 1)) : (dats T c).Φ t ⊢ Pipeline.ΦA spec0 c := by
  rw [Phi_eq, PhiA0_eq]
  iintro ⟨⟨%d9, %d10, %d11, %hI, HS0, HS1, HS2⟩, Hg⟩
  isplitl [HS0 HS1 HS2]
  · isplitl [HS0]
    · iexists d9; iexact HS0
    isplitl [HS1]
    · iexists d10; iexact HS1
    iexists d11; iexact HS2
  iexact Hg

set_option backward.isDefEq.respectTransparency.types false in
/-- Every fair run of the program ends, with the pipeline's arrays as the tracked data say and every semaphore counter at zero. -/
theorem run_main_quiescent : θ_run defs (onTc (τ := τ) (main (F := F))) (s₀ m ρ)
    (fun r => (Pipeline.RDat.FramePost (cfgs 0) (rdat T) (V m)) r ∧ r.2.sem = fun _ => 0) :=
  Pipeline.RDat.θ_run_frame_track (Q' := _) cfgs (0 : Fin 1) launch0 defs₀ Variants.none (rdat T) m ρ main
    (hbody := fun c => (body_obligation T c).toRRel) (hshare := fun c => (dats T c).share_full fun _ => rfl)
    (howed := fun _ _ => rfl) (V := V m) (hmain := hmain m Variants.none) (hA := dA_eq T) (hin := Phi_in T) (hout := fun c => Phi_out T c _)
    (hQ' := fun _ h => h)

/-- The arguments end unchanged. -/
theorem args_kept (r : PUnit × MemSt nD τ sig (Elt F)) (h : Pipeline.RDat.FramePost (cfgs 0) (rdat T) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      (Pipeline.RDat.FramePost.arr_in h c 1 rfl).trans ((dA_eq T c 1).trans (V_main_arg1 m c)),
      (Pipeline.RDat.FramePost.arr_in h c 2 rfl).trans ((dA_eq T c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

/-- The arguments end unchanged and the counters at zero. -/
theorem frame (T : Track m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_kept T r h.1, h.2⟩) (run_main_quiescent ρ T)

/-- Nothing tracked: what the frame alone needs. -/
def Track.trivial (m : (ℓ : Loc nD τ sig) → Buf (Elt F) ℓ) : Track m where
  Inv _ _ _ _ _ := True
  O _ _ _ := True
  zero _ _ _ _ := True.intro
  step _ _ _ _ _ _ := True.intro
  out _ _ _ _ _ _ _ _ := True.intro
  any _ _ _ _ := True.intro

set_option backward.isDefEq.respectTransparency.types false in
/-- The result array after the run: blocks that meet the output's property, written back over what the array held. -/
theorem result (r : PUnit × MemSt nD τ sig (Elt F)) (h : Pipeline.RDat.FramePost (cfgs 0) (rdat T) (V m) r) (c : Dev nD) :
    ∃ D : Dat τ (Elt F) Unit ℕ (UR sig nD τ) ℕ cfg0 c, (∀ u, (cfg0.win 6).flush u = true → T.O c u (D.after 6 u)) ∧
      r.2.mem ((c.tc : Thread nD τ).loc main_v7) = D.arrAt 6 cfg0.N := by
  obtain ⟨after, ha, hm⟩ := Pipeline.RDat.FramePost.exists_exact h c
  refine ⟨(rdat T c).withAfter after, fun u hu => ?_, ?_⟩
  · exact (dats T c).toRRel_leaves (fgt := marked) (Rl := Rl T c) (w := 6) rfl (ha 6 u hu)
  · exact hm 6

end Cert.KernelIdeal.Body

end
-- ==== Proof.Frames.lean ====
/- The frame claims: the kernel's is generated, its ideal reading's is the tracked run with nothing tracked, and the reference is a line of
   host operations. -/
module

public import proofs.«01_k».proof.Defs
public import proofs.«01_k».proof.Proof.K.Run
public import proofs.«01_k».proof.Proof.KI.Run
public import proofs.«01_k».proof.Proof.Gen.ReferenceIdeal
public import proofs.«01_k».proof.Proof.Gen.ReferenceIdeal.Run
public import Idealize.ShloMosaic.Lib.Quiescent
public import Idealize.ShloMosaic.Lib.Claim

@[expose] public section

noncomputable section

namespace Cert.Proof

open Idealize.ShloMosaic Idealize.SL.Sem

theorem frame_kernel : Cert.quiescent_Kernel (hKernel := Cert.Kernel.Gen.facts) := fun m ρ _ =>
  Cert.Kernel.Body.frame ρ (Cert.Kernel.Body.Track.trivial m)

theorem frame_kernelIdeal : Cert.quiescent_KernelIdeal (hKernelIdeal := Cert.KernelIdeal.Gen.facts) := fun m ρ _ =>
  Cert.KernelIdeal.Body.frame ρ (Cert.KernelIdeal.Body.Track.trivial m)

theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.KI.Geo.lean ====
/- Where each grid point reads and writes, in closed form over the point's number `t`: the column block is `t / 18`, the row block
   `t % 18`. -/
module

public import proofs.«01_k».proof.Proof.KI.Spec

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem t_lt (t : Fin cfg0.N) : t.val < 306 := lt_of_lt_of_eq t.isLt (show cfg0.N = 306 from N_0)

/-- The windows' block indices. -/
theorem idx0 : ∀ t : Fin cfg0.N, win0_0.index t = ![t.val % 18, 0] := (by decide +kernel : ∀ t : Fin grid0.N, _)
theorem idx1 : ∀ t : Fin cfg0.N, win0_1.index t = ![min (t.val % 18) 15, min (t.val / 18) 15] := (by decide +kernel : ∀ t : Fin grid0.N, _)
theorem idx2 : ∀ t : Fin cfg0.N, win0_2.index t = ![0, min (t.val / 18) 15] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, min (t.val / 18) 15] := (by decide +kernel : ∀ t : Fin grid0.N, _)
theorem idx5 : ∀ t : Fin cfg0.N, win0_5.index t = ![if t.val < 18 then t.val % 18 else 0, 0] := (by decide +kernel : ∀ t : Fin grid0.N, _)
theorem idx6 : ∀ t : Fin cfg0.N, win0_6.index t = ![if t.val < 18 then 0 else t.val % 18, t.val / 18 - 1] := (by decide +kernel : ∀ t : Fin grid0.N, _)

/-- The body's own offsets. -/
theorem off1 : ∀ t : Fin cfg0.N, k0_off1 (grid0.coords t) = ![512 * (t.val % 18), 0] := (by decide +kernel : ∀ t : Fin grid0.N, _)
theorem off2 : ∀ t : Fin cfg0.N, 18 ≤ t.val → k0_off2 (grid0.coords t) = ![(t.val / 18 - 1) % 2, 0, 0] := (by decide +kernel : ∀ t : Fin grid0.N, 18 ≤ t.val → _)
theorem off3 : ∀ t : Fin cfg0.N, k0_off3 (grid0.coords t) = ![512 * (t.val % 18), 0] := (by decide +kernel : ∀ t : Fin grid0.N, _)
theorem off4 : ∀ t : Fin cfg0.N, 18 ≤ t.val → k0_off4 (grid0.coords t) = ![(t.val / 18 - 1) % 2, 0, 0] := (by decide +kernel : ∀ t : Fin grid0.N, 18 ≤ t.val → _)
theorem off5 : ∀ t : Fin cfg0.N, ∀ r : Fin 6, k0_off5 (grid0.coords t) (BitVec.ofNat 32 r.val) = ![6 * min (t.val % 18) 15 + r.val, 0] :=
  (by decide +kernel : ∀ t : Fin grid0.N, ∀ r : Fin 6, _)
theorem off6 : ∀ t : Fin cfg0.N, ∀ r : Fin 6, k0_off6 (grid0.coords t) (BitVec.ofNat 32 (64 * r.val)) = ![t.val / 18 % 2, 384 * min (t.val % 18) 15 + 64 * r.val, 0] :=
  (by decide +kernel : ∀ t : Fin grid0.N, ∀ r : Fin 6, _)
theorem off7 : ∀ t : Fin cfg0.N, k0_off7 (grid0.coords t) = ![t.val / 18 % 2, 0, 0] := (by decide +kernel : ∀ t : Fin grid0.N, _)

/-- The output window is written back at the last point of each of its blocks: at every point from point 18 on, and never before. -/
theorem flush6 : ∀ t : Fin cfg0.N, (cfg0.win 6).flush t = true → 18 ≤ t.val := (by decide +kernel : ∀ t : Fin grid0.N, (cfg0.win 6).flush t = true → 18 ≤ t.val)

end Cert.KernelIdeal.Body

end
-- ==== Proof.Target.lean ====
/- What the two programs compute, as plain functions of the arrays: the NF4 value of a code, the dequantized weights, the masked low-rank
   activations, the stacked rows of `b`, and the result. -/
module

public import proofs.«01_k».proof.KernelIdeal
public import Idealize.ShloMosaic.Lib.Pipeline.ValueKit

@[expose] public section

set_option maxRecDepth 16384

noncomputable section

namespace Cert.Target

open Idealize.ShloMosaic Cert.KernelIdeal

/-- The NF4 value (rounded to bf16) of the code with bits `c0` (lowest) to `c3`. -/
def nf4 (c0 c1 c2 c3 : BitVec 1) : EReal :=
  Scalar.select c3
    (Scalar.select c2
      (Scalar.select c1 (Scalar.select c0 1 (Ideal.ofBits .bf16 0x3F39#16))
        (Scalar.select c0 (Ideal.ofBits .bf16 0x3F10#16) (Ideal.ofBits .bf16 0x3EE2#16)))
      (Scalar.select c1 (Scalar.select c0 (Ideal.ofBits .bf16 0x3EAD#16) (Ideal.ofBits .bf16 0x3E7C#16))
        (Scalar.select c0 (Ideal.ofBits .bf16 0x3E25#16) (Ideal.ofBits .bf16 0x3DA3#16))))
    (Scalar.select c2
      (Scalar.select c1 (Scalar.select c0 0 (Ideal.ofBits .bf16 0xBDBA#16))
        (Scalar.select c0 (Ideal.ofBits .bf16 0xBE3D#16) (Ideal.ofBits .bf16 0xBE92#16)))
      (Scalar.select c1 (Scalar.select c0 (Ideal.ofBits .bf16 0xBECA#16) (Ideal.ofBits .bf16 0xBF06#16))
        (Scalar.select c0 (Ideal.ofBits .bf16 0xBF32#16) (Ideal.ofBits .bf16 0xBF80#16))))

/-- Bit `k` of a byte. -/
def bitB (x : BitVec 8) (k : ℕ) : BitVec 1 := BitVec.ofBool (x.getLsbD k)

/-- The NF4 value of the byte's code number `p`: its low four bits for 0, its high four for 1. -/
def nfb (x : BitVec 8) (p : ℕ) : EReal := nf4 (bitB x (4 * p)) (bitB x (4 * p + 1)) (bitB x (4 * p + 2)) (bitB x (4 * p + 3))

/-- The dequantized weight at row `i`, column `n`. -/
def Wt (C : S3072x16384.Idx → BitVec 8) (S : S96x16384.Idx → EReal) (i : Fin 6144) (n : Fin 16384) : EReal :=
  nfb (C (ix2 ⟨i.val / 2, by omega⟩ n)) (i.val % 2) * S (ix2 ⟨i.val / 64, by omega⟩ n)

/-- The masked low-rank activation of token `r` in column `k`. -/
def Hv (X : S9216x6144.Idx → EReal) (A : S6144x256.Idx → EReal) (D : S9216x1.Idx → BitVec 32) (r : Fin 9216) (k : Fin 256) : EReal :=
  if BitVec.ofNat 32 (k.val % 128 / 16) = D (ix2 r 0) then ∑ i : Fin 6144, X (ix2 r i) * A (ix2 i k) else 0

/-- The stacked rows of `b`: two copies, each followed by zero rows. -/
def Wb (B : S112x16384.Idx → EReal) (k : Fin 256) (n : Fin 16384) : EReal :=
  if h : k.val % 128 < 112 then B (ix2 ⟨k.val % 128, h⟩ n) else 0

/-- The result at token `r`, column `n`. -/
def Out (X : S9216x6144.Idx → EReal) (C : S3072x16384.Idx → BitVec 8) (S : S96x16384.Idx → EReal) (A : S6144x256.Idx → EReal)
    (B : S112x16384.Idx → EReal) (D : S9216x1.Idx → BitVec 32) (r : Fin 9216) (n : Fin 16384) : EReal :=
  (∑ i : Fin 6144, X (ix2 r i) * Wt C S i n) + ∑ k : Fin 256, Hv X A D r k * Wb B k n

/-- Bit `b` of half `p` of the word in which a byte's two codes are spread. -/
theorem spread_bit : ∀ (x : BitVec 8) (p : Fin 2) (b : Fin 4),
    IntOp.cmpi .ne (IntOp.andi (BitVec.extractLsb' (16 * p.val) 16 (IntOp.andi (IntOp.ori (x.setWidth 32) (IntOp.shli .vector (x.setWidth 32) 12#32)) 983055#32))
      (BitVec.ofNat 16 (2 ^ b.val))) 0#16 = bitB x (4 * p.val + b.val) := by decide +kernel

/-- The same bit read by shifts. -/
theorem shift_bit : ∀ (x : BitVec 8) (p : Fin 2) (b : Fin 4),
    IntOp.cmpi .eq (IntOp.andi (IntOp.shrsi .host (IntOp.andi (IntOp.shrsi .host (x.setWidth 32) (BitVec.ofNat 32 (4 * p.val))) 15#32) (BitVec.ofNat 32 b.val)) 1#32) 1#32
      = bitB x (4 * p.val + b.val) := by decide +kernel

end Cert.Target

end
-- ==== Proof.KI.Payload.lean ====
/- The stored payloads of a grid point at an index: the dequantized sub-block, the masked low-rank activations, the stacked rows of `b`,
   and the output block. -/
module

public import proofs.«01_k».proof.Proof.KI.Geo
public import proofs.«01_k».proof.Proof.Target
public import Idealize.ShloMosaic.Lib.Pipeline.ValueKit
public import Idealize.ShloMosaic.Lib.BitcastPair
public import Idealize.ShloMosaic.PureOps.Ideal

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Target

/-- The spread word at a row: half `r % 2` of the word made of the byte at row `r / 2`. -/
theorem code_apply (p : Vec Ideal S32x1024 .i8) (r : Fin 64) (q : Fin 1024) :
    k0_pay5 (F := Ideal) p (ix2 r q) = BitVec.extractLsb' (16 * (r.val % 2)) 16 (IntOp.andi (IntOp.ori ((p (ix2 ⟨r.val / 2, by omega⟩ q)).setWidth 32)
      (IntOp.shli .vector ((p (ix2 ⟨r.val / 2, by omega⟩ q)).setWidth 32) 12#32)) 983055#32) := by
  unfold k0_pay5
  refine (bitcast_32_16 _ _ _).trans ?_
  have e : ∀ h, bitcasts_S32x1024_w32_S64x1024_w16.srcIdx (ix2 r q) ((Shape.row S64x1024 (ix2 r q)) / 2) h = (ix2 ⟨r.val / 2, by omega⟩ q : S32x1024.Idx) := by
    intro h
    funext a
    match a with
    | ⟨0, _⟩ => exact Fin.ext (Shape.Bitcasts.srcIdx_row _ _ _ _ _ rfl)
    | ⟨1, _⟩ => exact Fin.ext (Shape.Bitcasts.srcIdx_other _ _ _ _ _ (show ¬ (1 + 2 = 2) by decide))
  rw [e]
  rfl

/-- A sub-block of weights: the NF4 value of the row's code times the column's scale. -/
theorem blk_apply (a : Vec Ideal S1x1024 .f32) (p : Vec Ideal S32x1024 .i8) (r : Fin 64) (q : Fin 1024) :
    blk a p (ix3 0 r q) = nfb (p (ix2 ⟨r.val / 2, by omega⟩ q)) (r.val % 2) * a (ix2 0 q) := by
  have hb := fun b : Fin 4 => spread_bit (p (ix2 ⟨r.val / 2, by omega⟩ q)) ⟨r.val % 2, by omega⟩ b
  have h0 := hb 0
  have h1 := hb 1
  have h2 := hb 2
  have h3 := hb 3
  clear hb
  unfold nfb
  simp only [← code_apply] at h0 h1 h2 h3
  pointwise [blk, k0_pay4, k0_pay6, k0_pay7, k0_pay8, k0_pay9, k0_pay10, k0_pay11]
  erw [h0, h1, h2, h3]
  rfl

/-- The owner of column `k`, as the body computes it. -/
theorem owner : ∀ k : Fin 256, IntOp.divsi .vector (IntOp.remsi .vector (BitVec.ofNat 32 k.val) 128#32) 16#32 = BitVec.ofNat 32 (k.val % 128 / 16) := by
  decide +kernel

/-- The masked activations of one row block. -/
theorem hpay_apply (x0 : Vec Ideal S512x6144 .bf16) (x3 : Vec Ideal S6144x256 .bf16) (x5 : Vec Ideal S512x1 .i32) (r : Fin 512) (k : Fin 256) :
    k0_pay2 x0 x3 x5 (ix2 r k) = if BitVec.ofNat 32 (k.val % 128 / 16) = x5 (ix2 r 0) then ∑ i : Fin 6144, x0 (ix2 r i) * x3 (ix2 i k) else 0 := by
  pointwise [k0_pay2]
  rw [owner k]
  unfold Scalar.select IntOp.cmpi
  by_cases h : BitVec.ofNat 32 (k.val % 128 / 16) = x5 (ix2 r 0)
  · simp [h]
  · rw [if_neg h, beq_eq_false_iff_ne.mpr h]
    rfl

/-- The stacked rows of `b` of one column block. -/
theorem bpay_apply (x4 : Vec Ideal S112x1024 .bf16) (k : Fin 256) (q : Fin 1024) :
    k0_pay1 x4 (ix3 0 k q) = if h : k.val % 128 < 112 then x4 (ix2 ⟨k.val % 128, h⟩ q) else 0 := by
  pointwise [k0_pay1]
  have hk := k.isLt
  split_ifs with h1 h2 h3 h4 h5 <;> first
    | rfl
    | (exfalso; omega)
    | (rw [dif_neg (show ¬ k.val % 128 < 112 by omega)])
    | (rw [dif_pos (show k.val % 128 < 112 by omega)]; refine congrArg (fun z => x4 (ix2 z q)) (Fin.ext ?_); show k.val = k.val % 128; omega)
    | (rw [dif_pos (show k.val % 128 < 112 by omega)]; refine congrArg (fun z => x4 (ix2 z q)) (Fin.ext ?_); show k.val - 112 - 16 = k.val % 128; omega)

/-- The output block: the base product plus the low-rank product. -/
theorem opay_apply (x0 : Vec Ideal S512x6144 .bf16) (w : Vec Ideal S1x6144x1024 .bf16) (h : Vec Ideal S512x256 .bf16) (b : Vec Ideal S1x256x1024 .bf16)
    (r : Fin 512) (q : Fin 1024) :
    k0_pay3 x0 w h b (ix2 r q) = (∑ i : Fin 6144, x0 (ix2 r i) * w (ix3 0 i q)) + ∑ k : Fin 256, h (ix2 r k) * b (ix3 0 k q) := by
  pointwise [k0_pay3]

end Cert.KernelIdeal.Body

end
-- ==== Proof.KI.Blocks.lean ====
/- The input blocks of a grid point at an index: the element of the array that the block covers there. -/
module

public import proofs.«01_k».proof.Proof.KI.Payload

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ)

/-- The block of tokens. -/
theorem blk0 (c : Dev nD) (t : Fin cfg0.N) (r : Fin 512) (i : Fin 6144) (R : Fin 9216) (hR : R.val = 512 * (t.val % 18) + r.val) :
    (iblk m c 0 t : Vec F S512x6144 .bf16) (ix2 r i) = V m c main_v6 (ix2 R i) := by
  blk_ext [iblk, idx0 t]

/-- The block of packed codes. -/
theorem blk1 (c : Dev nD) (t : Fin cfg0.N) (r : Fin 192) (q : Fin 1024) (R : Fin 3072) (n : Fin 16384) (hR : R.val = 192 * min (t.val % 18) 15 + r.val)
    (hn : n.val = 1024 * min (t.val / 18) 15 + q.val) :
    (iblk m c 1 t : Vec F S192x1024 .i8) (ix2 r q) = V m c main_arg1 (ix2 R n) := by
  blk_ext [iblk, idx1 t]

/-- The block of scales. -/
theorem blk2 (c : Dev nD) (t : Fin cfg0.N) (r : Fin 96) (q : Fin 1024) (n : Fin 16384) (hn : n.val = 1024 * min (t.val / 18) 15 + q.val) :
    (iblk m c 2 t : Vec F S96x1024 .f32) (ix2 r q) = V m c main_arg2 (ix2 r n) := by
  blk_ext [iblk, idx2 t]

/-- The first low-rank factor, whole at every point. -/
theorem blk3 (c : Dev nD) (t : Fin cfg0.N) (i : Fin 6144) (k : Fin 256) :
    (iblk m c 3 t : Vec F S6144x256 .bf16) (ix2 i k) = V m c main_v3 (ix2 i k) := by
  blk_ext [iblk, idx3 t]

/-- The block of the second low-rank factor. -/
theorem blk4 (c : Dev nD) (t : Fin cfg0.N) (k : Fin 112) (q : Fin 1024) (n : Fin 16384) (hn : n.val = 1024 * min (t.val / 18) 15 + q.val) :
    (iblk m c 4 t : Vec F S112x1024 .bf16) (ix2 k q) = V m c main_v4 (ix2 k n) := by
  blk_ext [iblk, idx4 t]

/-- The block of adapter numbers, in the first 18 points. -/
theorem blk5 (c : Dev nD) (t : Fin cfg0.N) (ht : t.val < 18) (r : Fin 512) (R : Fin 9216) (hR : R.val = 512 * (t.val % 18) + r.val) :
    (iblk m c 5 t : Vec F S512x1 .i32) (ix2 r 0) = V m c main_v5 (ix2 R 0) := by
  have e : win0_5.index t = ![t.val % 18, 0] := by rw [idx5 t, if_pos ht]
  blk_ext [iblk, e]

/-- A put of rows in a matrix, at an index. -/
theorem put_rows {α : Type} {n0 n1 z0 : ℕ} (x : (⟨2, ![n0, n1]⟩ : Shape).Idx → α) (off : Fin 2 → ℕ) (a : ℕ) (ho : off = ![a, 0])
    (w : (⟨2, ![z0, n1]⟩ : Shape).Idx → α) (r : Fin n0) (q : Fin n1) :
    VecWindow.put (s := ⟨2, ![n0, n1]⟩) x off ![z0, n1] w (ix2 r q)
      = if h : a ≤ r.val ∧ r.val < a + z0 then w (ix2 ⟨r.val - a, by omega⟩ q) else x (ix2 r q) := by
  subst ho
  unfold VecWindow.put
  by_cases h : a ≤ r.val ∧ r.val < a + z0
  · rw [dif_pos h, dif_pos (show ∀ b : Fin 2, _ from fun b => by
      match b with
      | ⟨0, _⟩ => exact h
      | ⟨1, _⟩ => exact ⟨Nat.zero_le _, show q.val < 0 + n1 by omega⟩)]
    refine congrArg w (funext fun b => ?_)
    match b with
    | ⟨0, _⟩ => rfl
    | ⟨1, _⟩ => rfl
  · rw [dif_neg h, dif_neg (fun hb => h (hb 0))]

/-- A put of rows in one slab of a stack, at an index. -/
theorem put_slab {α : Type} {n0 n1 n2 z1 : ℕ} (x : (⟨3, ![n0, n1, n2]⟩ : Shape).Idx → α) (off : Fin 3 → ℕ) (a b : ℕ) (ho : off = ![a, b, 0])
    (w : (⟨3, ![1, z1, n2]⟩ : Shape).Idx → α) (s : Fin n0) (r : Fin n1) (q : Fin n2) :
    VecWindow.put (s := ⟨3, ![n0, n1, n2]⟩) x off ![1, z1, n2] w (ix3 s r q)
      = if h : s.val = a ∧ b ≤ r.val ∧ r.val < b + z1 then w (ix3 0 ⟨r.val - b, by omega⟩ q) else x (ix3 s r q) := by
  subst ho
  unfold VecWindow.put
  by_cases h : s.val = a ∧ b ≤ r.val ∧ r.val < b + z1
  · rw [dif_pos h, dif_pos (show ∀ d : Fin 3, _ from fun d => by
      match d with
      | ⟨0, _⟩ => exact ⟨le_of_eq h.1.symm, show s.val < a + 1 by omega⟩
      | ⟨1, _⟩ => exact h.2
      | ⟨2, _⟩ => exact ⟨Nat.zero_le _, show q.val < 0 + n2 by omega⟩)]
    refine congrArg w (funext fun d => ?_)
    match d with
    | ⟨0, _⟩ => exact Fin.ext (show s.val - a = 0 by omega)
    | ⟨1, _⟩ => rfl
    | ⟨2, _⟩ => rfl
  · rw [dif_neg h, dif_neg (fun hb => h ⟨by
      have h0 : a ≤ s.val ∧ s.val < a + 1 := hb 0
      omega, hb 1⟩)]

/-- Rows loaded from a matrix, at an index. -/
theorem ld_rows {n0 n1 z0 : ℕ} {e : EltTy} (x : Vec F ⟨2, ![n0, n1]⟩ e) (off : Fin 2 → ℕ) (a : ℕ) (ho : off = ![a, 0])
    (inb : ∀ b, off b + (![z0, n1] : Fin 2 → ℕ) b ≤ (⟨2, ![n0, n1]⟩ : Shape).size b) (r : Fin z0) (q : Fin n1) (R : Fin n0) (hR : R.val = a + r.val) :
    View.ld x (Rect.unit (s := ⟨2, ![n0, n1]⟩) off ![z0, n1] inb) (ix2 r q) = x (ix2 R q) := by
  subst ho
  show x _ = x _
  refine congrArg x (funext fun b => ?_)
  match b with
  | ⟨0, _⟩ => exact Fin.ext (show a + 1 * r.val = R.val by omega)
  | ⟨1, _⟩ => exact Fin.ext (show 0 + 1 * q.val = q.val by omega)

/-- One slab loaded from a stack, at an index. -/
theorem ld_slab {n0 n1 n2 : ℕ} {e : EltTy} (x : Vec F ⟨3, ![n0, n1, n2]⟩ e) (off : Fin 3 → ℕ) (a : ℕ) (ho : off = ![a, 0, 0])
    (inb : ∀ b, off b + (![1, n1, n2] : Fin 3 → ℕ) b ≤ (⟨3, ![n0, n1, n2]⟩ : Shape).size b) (r : Fin n1) (q : Fin n2) (s : Fin n0) (hs : s.val = a) :
    View.ld x (Rect.unit (s := ⟨3, ![n0, n1, n2]⟩) off ![1, n1, n2] inb) (ix3 0 r q) = x (ix3 s r q) := by
  subst ho
  show x _ = x _
  refine congrArg x (funext fun b => ?_)
  match b with
  | ⟨0, _⟩ => exact Fin.ext (show a + 1 * 0 = s.val by omega)
  | ⟨1, _⟩ => exact Fin.ext (show 0 + 1 * r.val = r.val by omega)
  | ⟨2, _⟩ => exact Fin.ext (show 0 + 1 * q.val = q.val by omega)

end Cert.KernelIdeal.Body

end
-- ==== Proof.KI.Steps.lean ====
/- What a grid point leaves in the scratch buffers and in the output block, at an index. -/
module

public import proofs.«01_k».proof.Proof.KI.Blocks

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Target

variable (m : (ℓ : Loc nD τ sig) → Buf (Elt Ideal) ℓ)

/-- The value that the body stores at row `i`, column `q` of the weight scratch at point `t`. -/
def wVal (t : Fin cfg0.N) (x1 : Vec Ideal S192x1024 .i8) (x2 : Vec Ideal S96x1024 .f32) (i : Fin 6144) (q : Fin 1024) : EReal :=
  nfb (x1 (ix2 ⟨(i.val - 384 * min (t.val % 18) 15) / 2 % 192, by omega⟩ q)) (i.val % 2) * x2 (ix2 ⟨i.val / 64, by omega⟩ q)

/-- One sub-block put over the weight scratch. -/
theorem sub_apply (t : Fin cfg0.N) (x1 : Vec Ideal S192x1024 .i8) (x2 : Vec Ideal S96x1024 .f32) (r : Fin 6)
    (inb : ∀ b, (![32 * r.val, 0] : Fin 2 → ℕ) b + S32x1024.size b ≤ S192x1024.size b) (d : Vec Ideal S2x6144x1024 .bf16)
    (s : Fin 2) (i : Fin 6144) (q : Fin 1024) :
    (VecWindow.put d (k0_off6 (grid0.coords t) (BitVec.ofNat 32 (64 * r.val))) S1x64x1024.size
        (blk (scl (grid0.coords t) x2 r) (View.ld x1 (Rect.unit (s := S192x1024) ![32 * r.val, 0] S32x1024.size inb)))) (ix3 s i q)
      = if s.val = t.val / 18 % 2 ∧ 384 * min (t.val % 18) 15 + 64 * r.val ≤ i.val ∧ i.val < 384 * min (t.val % 18) 15 + 64 * r.val + 64
          then wVal t x1 x2 i q else d (ix3 s i q) := by
  refine (put_slab d _ _ _ (off6 t r) _ s i q).trans ?_
  by_cases h : s.val = t.val / 18 % 2 ∧ 384 * min (t.val % 18) 15 + 64 * r.val ≤ i.val ∧ i.val < 384 * min (t.val % 18) 15 + 64 * r.val + 64
  · rw [dif_pos h, if_pos h]
    have hr := r.isLt
    refine (blk_apply _ _ _ _).trans ?_
    unfold wVal
    have e1 := ld_rows (F := Ideal) x1 ![32 * r.val, 0] (32 * r.val) rfl inb ⟨(i.val - (384 * min (t.val % 18) 15 + 64 * r.val)) / 2, by omega⟩ q
      ⟨(i.val - 384 * min (t.val % 18) 15) / 2 % 192, by omega⟩ (by simp only []; omega)
    have e2 := ld_rows (F := Ideal) x2 _ (6 * min (t.val % 18) 15 + r.val) (off5 t r) (k0_off5_inb (grid0.coords t) r) 0 q ⟨i.val / 64, by omega⟩ (by simp only [Fin.val_zero]; omega)
    have e3 : (i.val - (384 * min (t.val % 18) 15 + 64 * r.val)) % 2 = i.val % 2 := by omega
    exact congrArg₂ (· * ·) (congrArg₂ nfb e1 e3) e2
  · rw [dif_neg h, if_neg h]

/-- The same with the row offset as a number. -/
theorem sub_apply' (t : Fin cfg0.N) (x1 : Vec Ideal S192x1024 .i8) (x2 : Vec Ideal S96x1024 .f32) (r : Fin 6) (b : ℕ) (hb : 64 * r.val = b)
    (inb : ∀ b, (![32 * r.val, 0] : Fin 2 → ℕ) b + S32x1024.size b ≤ S192x1024.size b) (d : Vec Ideal S2x6144x1024 .bf16)
    (s : Fin 2) (i : Fin 6144) (q : Fin 1024) :
    (VecWindow.put d (k0_off6 (grid0.coords t) (BitVec.ofNat 32 (64 * r.val))) S1x64x1024.size
        (blk (scl (grid0.coords t) x2 r) (View.ld x1 (Rect.unit (s := S192x1024) ![32 * r.val, 0] S32x1024.size inb)))) (ix3 s i q)
      = if s.val = t.val / 18 % 2 ∧ 384 * min (t.val % 18) 15 + b ≤ i.val ∧ i.val < 384 * min (t.val % 18) 15 + b + 64
          then wVal t x1 x2 i q else d (ix3 s i q) := by
  subst hb
  exact sub_apply t x1 x2 r inb d s i q

/-- The weight scratch after the body. -/
theorem wNext_apply (t : Fin cfg0.N) (x1 : Vec Ideal S192x1024 .i8) (x2 : Vec Ideal S96x1024 .f32) (d : Vec Ideal S2x6144x1024 .bf16)
    (s : Fin 2) (i : Fin 6144) (q : Fin 1024) :
    wNext (grid0.coords t) x1 x2 d (ix3 s i q)
      = if s.val = t.val / 18 % 2 ∧ 384 * min (t.val % 18) 15 ≤ i.val ∧ i.val < 384 * min (t.val % 18) 15 + 384 then wVal t x1 x2 i q else d (ix3 s i q) := by
  rw [wNext_eq]
  refine (sub_apply' t x1 x2 5 320 rfl _ _ s i q).trans ?_
  by_cases c5 : s.val = t.val / 18 % 2 ∧ 384 * min (t.val % 18) 15 + 320 ≤ i.val ∧ i.val < 384 * min (t.val % 18) 15 + 320 + 64
  · rw [if_pos c5, if_pos (by omega)]
  rw [if_neg c5]
  refine (sub_apply' t x1 x2 4 256 rfl _ _ s i q).trans ?_
  by_cases c4 : s.val = t.val / 18 % 2 ∧ 384 * min (t.val % 18) 15 + 256 ≤ i.val ∧ i.val < 384 * min (t.val % 18) 15 + 256 + 64
  · rw [if_pos c4, if_pos (by omega)]
  rw [if_neg c4]
  refine (sub_apply' t x1 x2 3 192 rfl _ _ s i q).trans ?_
  by_cases c3 : s.val = t.val / 18 % 2 ∧ 384 * min (t.val % 18) 15 + 192 ≤ i.val ∧ i.val < 384 * min (t.val % 18) 15 + 192 + 64
  · rw [if_pos c3, if_pos (by omega)]
  rw [if_neg c3]
  refine (sub_apply' t x1 x2 2 128 rfl _ _ s i q).trans ?_
  by_cases c2 : s.val = t.val / 18 % 2 ∧ 384 * min (t.val % 18) 15 + 128 ≤ i.val ∧ i.val < 384 * min (t.val % 18) 15 + 128 + 64
  · rw [if_pos c2, if_pos (by omega)]
  rw [if_neg c2]
  refine (sub_apply' t x1 x2 1 64 rfl _ _ s i q).trans ?_
  by_cases c1 : s.val = t.val / 18 % 2 ∧ 384 * min (t.val % 18) 15 + 64 ≤ i.val ∧ i.val < 384 * min (t.val % 18) 15 + 64 + 64
  · rw [if_pos c1, if_pos (by omega)]
  rw [if_neg c1]
  refine (sub_apply' t x1 x2 0 0 rfl _ _ s i q).trans ?_
  by_cases c0 : s.val = t.val / 18 % 2 ∧ 384 * min (t.val % 18) 15 + 0 ≤ i.val ∧ i.val < 384 * min (t.val % 18) 15 + 0 + 64
  · rw [if_pos c0, if_pos (by omega)]
  rw [if_neg c0]
  rw [if_neg (by omega)]

/-- The masked activations after the body, where it stores them. -/
theorem hNext_apply (t : Fin cfg0.N) (x0 : Vec Ideal S512x6144 .bf16) (x3 : Vec Ideal S6144x256 .bf16) (x5 : Vec Ideal S512x1 .i32) (d : Vec Ideal S9216x256 .bf16)
    (r : Fin 9216) (k : Fin 256) :
    hNext (grid0.coords t) x0 x3 x5 d (ix2 r k)
      = if h : 512 * (t.val % 18) ≤ r.val ∧ r.val < 512 * (t.val % 18) + 512 then
          (if BitVec.ofNat 32 (k.val % 128 / 16) = x5 (ix2 ⟨r.val - 512 * (t.val % 18), by omega⟩ 0)
            then ∑ i : Fin 6144, x0 (ix2 ⟨r.val - 512 * (t.val % 18), by omega⟩ i) * x3 (ix2 i k) else 0)
        else d (ix2 r k) := by
  refine (put_rows d _ _ (off1 t) _ r k).trans ?_
  by_cases h : 512 * (t.val % 18) ≤ r.val ∧ r.val < 512 * (t.val % 18) + 512
  · rw [dif_pos h, dif_pos h]
    exact hpay_apply x0 x3 x5 _ k
  · rw [dif_neg h, dif_neg h]

/-- The stacked rows of `b` after the body, where it stores them. -/
theorem bNext_apply (t : Fin cfg0.N) (x4 : Vec Ideal S112x1024 .bf16) (d : Vec Ideal S2x256x1024 .bf16) (s : Fin 2) (k : Fin 256) (q : Fin 1024) :
    bNext (grid0.coords t) x4 d (ix3 s k q)
      = if s.val = t.val / 18 % 2 then (if h : k.val % 128 < 112 then x4 (ix2 ⟨k.val % 128, h⟩ q) else 0) else d (ix3 s k q) := by
  refine (put_slab d _ _ _ (off7 t) _ s k q).trans ?_
  by_cases h : s.val = t.val / 18 % 2
  · rw [dif_pos ⟨h, Nat.zero_le _, by omega⟩, if_pos h]
    exact bpay_apply x4 k q
  · rw [dif_neg (fun hh => h hh.1), if_neg h]

/-- The output block that the body stores. -/
theorem oNext_apply (t : Fin cfg0.N) (ht : 18 ≤ t.val) (hc : cond0_1 (grid0.coords t)) (x0 : Vec Ideal S512x6144 .bf16) (d9 : Vec Ideal S2x6144x1024 .bf16)
    (d10 : Vec Ideal S2x256x1024 .bf16) (d11 : Vec Ideal S9216x256 .bf16) (r : Fin 512) (q : Fin 1024) (s : Fin 2) (R : Fin 9216)
    (hs : s.val = (t.val / 18 - 1) % 2) (hR : R.val = 512 * (t.val % 18) + r.val) :
    oNext (grid0.coords t) hc x0 d9 d10 d11 (ix2 r q)
      = (∑ i : Fin 6144, x0 (ix2 r i) * d9 (ix3 s i q)) + ∑ k : Fin 256, d11 (ix2 R k) * d10 (ix3 s k q) := by
  refine (opay_apply _ _ _ _ r q).trans ?_
  refine congrArg₂ (· + ·) (Finset.sum_congr rfl fun i _ => ?_) (Finset.sum_congr rfl fun k _ => ?_)
  · exact congrArg (x0 (ix2 r i) * ·) (ld_slab (F := Ideal) d9 _ _ (off2 t ht) (k0_off2_inb (grid0.coords t) hc) i q s hs)
  · exact congrArg₂ (· * ·) (ld_rows (F := Ideal) d11 _ _ (off3 t) (k0_off3_inb (grid0.coords t) hc) r k R hR)
      (ld_slab (F := Ideal) d10 _ _ (off4 t ht) (k0_off4_inb (grid0.coords t) hc) k q s hs)

end Cert.KernelIdeal.Body

end
-- ==== Proof.KI.Invariant.lean ====
/- What the scratch buffers hold before each grid point, and what each output block then is: the tracked property at the extended reals. -/
module

public import proofs.«01_k».proof.Proof.KI.Steps
public import proofs.«01_k».proof.Proof.KI.Run

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Target

variable (m : (ℓ : Loc nD τ sig) → Buf (Elt Ideal) ℓ)

/-- The weights, the masked activations, the stacked rows and the result of the kernel's own operand arrays. -/
abbrev kW (c : Dev nD) (i : Fin 6144) (n : Fin 16384) : EReal := Wt (V m c main_arg1) (V m c main_arg2) i n
abbrev kH (c : Dev nD) (r : Fin 9216) (k : Fin 256) : EReal := Hv (V m c main_v6) (V m c main_v3) (V m c main_v5) r k
abbrev kB (c : Dev nD) (k : Fin 256) (n : Fin 16384) : EReal := Wb (V m c main_v4) k n
abbrev kO (c : Dev nD) (r : Fin 9216) (n : Fin 16384) : EReal :=
  Out (V m c main_v6) (V m c main_arg1) (V m c main_arg2) (V m c main_v3) (V m c main_v4) (V m c main_v5) r n

/-- Before point `t`: the activations of the row blocks passed; of the weights' column block being made, the rows made so far; the column
    block made before, whole, in the other slot; the stacked rows of both. -/
structure Inv (c : Dev nD) (t : ℕ) (d9 : Vec Ideal S2x6144x1024 .bf16) (d10 : Vec Ideal S2x256x1024 .bf16) (d11 : Vec Ideal S9216x256 .bf16) : Prop where
  act : ∀ (r : Fin 9216) (k : Fin 256), r.val < 512 * t → d11 (ix2 r k) = kH m c r k
  made : ∀ (s : Fin 2) (i : Fin 6144) (q : Fin 1024) (n : Fin 16384), s.val = t / 18 % 2 → n.val = 1024 * min (t / 18) 15 + q.val →
    i.val < 384 * (t % 18) → d9 (ix3 s i q) = kW m c i n
  whole : 1 ≤ t / 18 → t / 18 ≤ 16 → ∀ (s : Fin 2) (i : Fin 6144) (q : Fin 1024) (n : Fin 16384), s.val = (t / 18 - 1) % 2 →
    n.val = 1024 * (t / 18 - 1) + q.val → d9 (ix3 s i q) = kW m c i n
  rows : 1 ≤ t / 18 → t / 18 ≤ 16 → ∀ (s : Fin 2) (k : Fin 256) (q : Fin 1024) (n : Fin 16384), s.val = (t / 18 - 1) % 2 →
    n.val = 1024 * (t / 18 - 1) + q.val → d10 (ix3 s k q) = kB m c k n
  rows' : t % 18 ≠ 0 → ∀ (s : Fin 2) (k : Fin 256) (q : Fin 1024) (n : Fin 16384), s.val = t / 18 % 2 →
    n.val = 1024 * min (t / 18) 15 + q.val → d10 (ix3 s k q) = kB m c k n

/-- What the body stores in the weight scratch is the weight. -/
theorem wVal_eq (c : Dev nD) (t : Fin cfg0.N) (i : Fin 6144) (q : Fin 1024) (n : Fin 16384) (hn : n.val = 1024 * min (t.val / 18) 15 + q.val)
    (hi : 384 * min (t.val % 18) 15 ≤ i.val ∧ i.val < 384 * min (t.val % 18) 15 + 384) :
    wVal t (iblk m c 1 t) (iblk m c 2 t) i q = kW m c i n := by
  unfold wVal
  exact congrArg₂ (· * ·) (congrArg (fun x => nfb x (i.val % 2))
      (blk1 m c t ⟨(i.val - 384 * min (t.val % 18) 15) / 2 % 192, by omega⟩ q ⟨i.val / 2, by omega⟩ n (by simp only []; omega) hn))
    (blk2 m c t ⟨i.val / 64, by omega⟩ q n hn)

/-- The weight scratch after the body at a weight, in the slot being made. -/
theorem w_new (c : Dev nD) (t : Fin cfg0.N) (d9 : Vec Ideal S2x6144x1024 .bf16) (s : Fin 2) (i : Fin 6144) (q : Fin 1024) (n : Fin 16384)
    (hs : s.val = t.val / 18 % 2) (hn : n.val = 1024 * min (t.val / 18) 15 + q.val) (hi : i.val < 384 * (t.val % 18 + 1))
    (h : i.val < 384 * (t.val % 18) → d9 (ix3 s i q) = kW m c i n) :
    wNext (grid0.coords t) (iblk m c 1 t) (iblk m c 2 t) d9 (ix3 s i q) = kW m c i n := by
  refine (wNext_apply t _ _ d9 s i q).trans ?_
  by_cases hb : 384 * min (t.val % 18) 15 ≤ i.val ∧ i.val < 384 * min (t.val % 18) 15 + 384
  · rw [if_pos ⟨hs, hb⟩]
    exact wVal_eq m c t i q n hn hb
  · rw [if_neg (fun hh => hb hh.2)]
    exact h (by omega)

/-- The weight scratch after the body, in the other slot. -/
theorem w_old (t : Fin cfg0.N) (x1 : Vec Ideal S192x1024 .i8) (x2 : Vec Ideal S96x1024 .f32) (d9 : Vec Ideal S2x6144x1024 .bf16)
    (s : Fin 2) (i : Fin 6144) (q : Fin 1024) (hs : s.val ≠ t.val / 18 % 2) :
    wNext (grid0.coords t) x1 x2 d9 (ix3 s i q) = d9 (ix3 s i q) := by
  refine (wNext_apply t _ _ d9 s i q).trans ?_
  rw [if_neg (fun hh => hs hh.1)]

/-- The stacked rows after the body, in the slot being made. -/
theorem b_new (c : Dev nD) (t : Fin cfg0.N) (d10 : Vec Ideal S2x256x1024 .bf16) (s : Fin 2) (k : Fin 256) (q : Fin 1024) (n : Fin 16384)
    (hs : s.val = t.val / 18 % 2) (hn : n.val = 1024 * min (t.val / 18) 15 + q.val) (h : t.val % 18 ≠ 0 → d10 (ix3 s k q) = kB m c k n) :
    (if t.val % 18 = 0 then bNext (grid0.coords t) (iblk m c 4 t) d10 else d10) (ix3 s k q) = kB m c k n := by
  by_cases h0 : t.val % 18 = 0
  · rw [if_pos h0]
    refine (bNext_apply t _ d10 s k q).trans ?_
    rw [if_pos hs]
    unfold kB Wb
    by_cases hk : k.val % 128 < 112
    · rw [dif_pos hk, dif_pos hk]
      exact blk4 m c t ⟨k.val % 128, hk⟩ q n hn
    · rw [dif_neg hk, dif_neg hk]
  · rw [if_neg h0]
    exact h h0

/-- The stacked rows after the body, in the other slot. -/
theorem b_old (c : Dev nD) (t : Fin cfg0.N) (d10 : Vec Ideal S2x256x1024 .bf16) (s : Fin 2) (k : Fin 256) (q : Fin 1024) (hs : s.val ≠ t.val / 18 % 2) :
    (if t.val % 18 = 0 then bNext (grid0.coords t) (iblk m c 4 t) d10 else d10) (ix3 s k q) = d10 (ix3 s k q) := by
  by_cases h0 : t.val % 18 = 0
  · rw [if_pos h0]
    refine (bNext_apply t _ d10 s k q).trans ?_
    rw [if_neg hs]
  · rw [if_neg h0]

/-- Equal factors make equal sums of products. -/
theorem dot_congr {n : ℕ} (f g f' g' : Fin n → EReal) (h : ∀ i, f i = f' i) (h' : ∀ i, g i = g' i) : ∑ i, f i * g i = ∑ i, f' i * g' i :=
  Finset.sum_congr rfl fun i _ => congrArg₂ (· * ·) (h i) (h' i)

/-- The activations after the body. -/
theorem h_new (c : Dev nD) (t : Fin cfg0.N) (d11 : Vec Ideal S9216x256 .bf16) (r : Fin 9216) (k : Fin 256) (hr : r.val < 512 * (t.val + 1))
    (h : r.val < 512 * t.val → d11 (ix2 r k) = kH m c r k) :
    (if t.val < 18 then hNext (grid0.coords t) (iblk m c 0 t) (iblk m c 3 t) (iblk m c 5 t) d11 else d11) (ix2 r k) = kH m c r k := by
  by_cases ht : t.val < 18
  · rw [if_pos ht]
    refine (hNext_apply t _ _ _ d11 r k).trans ?_
    by_cases hb : 512 * (t.val % 18) ≤ r.val ∧ r.val < 512 * (t.val % 18) + 512
    · rw [dif_pos hb]
      have hR : r.val = 512 * (t.val % 18) + (r.val - 512 * (t.val % 18)) := by omega
      have e5 := blk5 m c t ht ⟨r.val - 512 * (t.val % 18), by omega⟩ r hR
      have e0 := fun i : Fin 6144 => blk0 m c t ⟨r.val - 512 * (t.val % 18), by omega⟩ i r hR
      unfold kH Hv
      have es := dot_congr (fun i : Fin 6144 => (iblk m c 0 t : Vec Ideal S512x6144 .bf16) (ix2 ⟨r.val - 512 * (t.val % 18), by omega⟩ i))
        (fun i => (iblk m c 3 t : Vec Ideal S6144x256 .bf16) (ix2 i k)) _ _ e0 (fun i => blk3 m c t i k)
      exact congrArg₂ (fun (z : BitVec 32) (y : EReal) => if BitVec.ofNat 32 (k.val % 128 / 16) = z then y else 0) e5 es
    · rw [dif_neg hb]
      exact h (by omega)
  · rw [if_neg ht]
    have hr' := r.isLt
    exact h (by omega)

/-- The property of an output block: the result's values there. -/
def OutBlk (c : Dev nD) (t : Fin cfg0.N) (d : Vec Ideal S512x1024 .bf16) : Prop :=
  18 ≤ t.val → ∀ (r : Fin 512) (q : Fin 1024) (R : Fin 9216) (n : Fin 16384), R.val = 512 * (t.val % 18) + r.val →
    n.val = 1024 * (t.val / 18 - 1) + q.val → d (ix2 r q) = kO m c R n

/-- The tracked property. -/
def track : Track m where
  Inv := Inv m
  O := OutBlk m
  zero c d9 d10 d11 := {
    act := fun r k h => absurd h (by omega)
    made := fun s i q n hs hn hi => absurd hi (by omega)
    whole := fun h => absurd h (by omega)
    rows := fun h => absurd h (by omega)
    rows' := fun h => absurd rfl h }
  step c t d9 d10 d11 I := by
    have ht := t_lt t
    refine ⟨fun r k hr => h_new m c t d11 r k hr (I.act r k), fun s i q n hs hn hi => ?_, fun h1 h2 s i q n hs hn => ?_, fun h1 h2 s k q n hs hn => ?_,
      fun h0 s k q n hs hn => ?_⟩
    · have e1 : (t.val + 1) / 18 = t.val / 18 := by omega
      have e2 : (t.val + 1) % 18 = t.val % 18 + 1 := by omega
      rw [e1] at hs hn
      rw [e2] at hi
      exact w_new m c t d9 s i q n hs hn hi (I.made s i q n hs hn)
    · by_cases h17 : t.val % 18 = 17
      · have e1 : (t.val + 1) / 18 - 1 = t.val / 18 := by omega
        rw [e1] at hs hn
        have hn' : n.val = 1024 * min (t.val / 18) 15 + q.val := by omega
        have hi := i.isLt
        exact w_new m c t d9 s i q n hs hn' (by omega) (I.made s i q n hs hn')
      · have e1 : (t.val + 1) / 18 = t.val / 18 := by omega
        rw [e1] at hs hn h1 h2
        exact (w_old t _ _ d9 s i q (by omega)).trans (I.whole h1 h2 s i q n hs hn)
    · by_cases h17 : t.val % 18 = 17
      · have e1 : (t.val + 1) / 18 - 1 = t.val / 18 := by omega
        rw [e1] at hs hn
        have hn' : n.val = 1024 * min (t.val / 18) 15 + q.val := by omega
        exact b_new m c t d10 s k q n hs hn' (fun h => I.rows' h s k q n hs hn')
      · have e1 : (t.val + 1) / 18 = t.val / 18 := by omega
        rw [e1] at hs hn h1 h2
        exact (b_old m c t d10 s k q (by omega)).trans (I.rows h1 h2 s k q n hs hn)
    · have e1 : (t.val + 1) / 18 = t.val / 18 := by omega
      rw [e1] at hs hn
      exact b_new m c t d10 s k q n hs hn (fun h => I.rows' h s k q n hs hn)
  out c t ht hc d9 d10 d11 I := by
    intro _ r q R n hR hn
    have h306 := t_lt t
    have h1 : 1 ≤ t.val / 18 := by omega
    have h2 : t.val / 18 ≤ 16 := by omega
    refine (oNext_apply t ht hc _ d9 d10 d11 r q ⟨(t.val / 18 - 1) % 2, by omega⟩ R rfl hR).trans ?_
    refine congrArg₂ (· + ·) (Finset.sum_congr rfl fun i _ => ?_) (Finset.sum_congr rfl fun k _ => ?_)
    · exact congrArg₂ (· * ·) (blk0 m c t r i R hR) (I.whole h1 h2 _ i q n rfl hn)
    · exact congrArg₂ (· * ·) (I.act R k (by have := R.isLt; omega)) (I.rows h1 h2 _ k q n rfl hn)
  any c t ht d h := absurd h (by omega)

/-- The result array: the kernel's value at every index. -/
theorem arr_eq (c : Dev nD) (D : Dat τ (Elt Ideal) Unit ℕ (UR sig nD τ) ℕ cfg0 c)
    (hD : ∀ u, (cfg0.win 6).flush u = true → OutBlk m c u (D.after 6 u)) (R : Fin 9216) (n : Fin 16384) :
    (D.arrAt 6 cfg0.N : S9216x16384.Idx → EReal) (ix2 R n) = kO m c R n := by
  refine D.arrAt_forall_of_covers 6 (fun i v => v = kO m c (i 0) (i 1)) (by decide +kernel) (fun t hf y => ?_) (ix2 R n)
  have ht := flush6 t hf
  have e6 : win0_6.index t = ![t.val % 18, t.val / 18 - 1] := by rw [idx6 t, if_neg (by omega)]
  blk_simp
  refine (congrArg (D.after 6 t) (eq_ix2 (n0 := 512) (n1 := 1024) y)).trans (hD t hf ht (y 0) (y 1) _ _ ?_ ?_)
  · blk_simp [e6]
    omega
  · blk_simp [e6]
    omega

/-- The result buffer after the run. -/
theorem result_eq (r : PUnit × MemSt nD τ sig (Elt Ideal)) (h : Pipeline.RDat.FramePost (cfgs 0) (rdat (track m)) (V m) r) (c : Dev nD) (R : Fin 9216) (n : Fin 16384) :
    (r.2.mem ((c.tc : Thread nD τ).loc main_v7) : S9216x16384.Idx → EReal) (ix2 R n) = kO m c R n := by
  obtain ⟨D, hD, e⟩ := result (track m) r h c
  exact (congrFun e (ix2 R n)).trans (arr_eq m c D hD R n)

end Cert.KernelIdeal.Body

end
-- ==== Proof.KI.Host.lean ====
/- The operand arrays that the host makes before the launch, at an index: the tokens in one row each, the stacked first factors, the second
   factors, and the adapter numbers in one column. -/
module

public import proofs.«01_k».proof.Proof.KI.Invariant

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Target

variable (m : (ℓ : Loc nD τ sig) → Buf (Elt Ideal) ℓ)

/-- The tokens. -/
theorem host_x (c : Dev nD) (R : Fin 9216) (i : Fin 6144) :
    V m c main_v6 (ix2 R i) = (m ((c : Thread nD τ).loc main_arg0) : S12x768x6144.Idx → EReal) (ix3 ⟨R.val / 768, by omega⟩ ⟨R.val % 768, by omega⟩ i) := by
  simp only [V, hostOps0, hostOps0_1, hostOps0_2, List.flatten_cons, List.flatten_nil, List.append_nil, List.cons_append, List.nil_append]
  entry_read
  pointwise
  done

/-- The adapter numbers. -/
theorem host_ids (c : Dev nD) (R : Fin 9216) :
    V m c main_v5 (ix2 R 0) = (m ((c : Thread nD τ).loc main_arg5) : S12x768.Idx → BitVec 32) (ix2 ⟨R.val / 768, by omega⟩ ⟨R.val % 768, by omega⟩) := by
  simp only [V, hostOps0, hostOps0_1, hostOps0_2, List.flatten_cons, List.flatten_nil, List.append_nil, List.cons_append, List.nil_append]
  entry_read
  pointwise
  done

/-- The second factors. -/
theorem host_b (c : Dev nD) (k : Fin 112) (n : Fin 16384) :
    V m c main_v4 (ix2 k n) = (m ((c : Thread nD τ).loc main_arg4) : S7x16x16384.Idx → EReal) (ix3 ⟨k.val / 16, by omega⟩ ⟨k.val % 16, by omega⟩ n) := by
  simp only [V, hostOps0, hostOps0_1, hostOps0_2, List.flatten_cons, List.flatten_nil, List.append_nil, List.cons_append, List.nil_append]
  entry_read
  pointwise
  done

/-- The stacked first factors, in a column that is not padding. -/
theorem host_a (c : Dev nD) (i : Fin 6144) (k : Fin 256) (hk : k.val % 128 < 112) :
    V m c main_v3 (ix2 i k) = (m ((c : Thread nD τ).loc main_arg3) : S7x6144x16.Idx → EReal) (ix3 ⟨k.val % 128 / 16, by omega⟩ i ⟨k.val % 16, by omega⟩) := by
  simp only [V, hostOps0, hostOps0_1, hostOps0_2, List.flatten_cons, List.flatten_nil, List.append_nil, List.cons_append, List.nil_append]
  entry_read
  simp only [StableHlo.TRef.toBuf, StableHlo.TRef.ofBuf, cast_eq]
  pointwise
  by_cases h : k.val < 128
  · rw [dif_pos h, dif_pos (by omega)]
    refine congrArg₂ (fun z w => (m ((c.tc : Thread nD τ).loc main_arg3) : S7x6144x16.Idx → EReal) (ix3 z i w)) (Fin.ext ?_) (Fin.ext ?_)
    · show k.val / 16 = k.val % 128 / 16
      omega
    · rfl
  · rw [dif_neg h, dif_pos (by omega)]
    refine congrArg₂ (fun z w => (m ((c.tc : Thread nD τ).loc main_arg3) : S7x6144x16.Idx → EReal) (ix3 z i w)) (Fin.ext ?_) (Fin.ext ?_)
    · show (k.val - 128) / 16 = k.val % 128 / 16
      omega
    · show (k.val - 128) % 16 = k.val % 16
      omega

end Cert.KernelIdeal.Body

end
-- ==== Proof.RefW.lean ====
/- The reference read at an index: the bits of a code, its NF4 value, and the dequantized weight. -/
module

public import proofs.«01_k».proof.Proof.Gen.ReferenceIdeal.Read
public import proofs.«01_k».proof.Proof.Target

@[expose] public section

set_option maxRecDepth 16384

noncomputable section

namespace Cert.ReferenceIdeal.Read

open Idealize.ShloMosaic Cert.ReferenceIdeal Cert.Target

/-- The word whose bits are tested: the byte moved down by four times the code's number. -/
theorem code_at (x1 : S3072x16384.Idx → BitVec 8) (a : Fin 3072) (p : Fin 2) (n : Fin 16384) :
    val_main_v10 (F := Ideal) x1 (ix3 a p n) = IntOp.andi (IntOp.shrsi .host ((x1 (ix2 a n)).setWidth 32) (BitVec.ofNat 32 (4 * p.val))) 15#32 := by
  have hp : IntOp.muli 4#32 (BitVec.ofNat 32 p.val) = BitVec.ofNat 32 (4 * p.val) := (by decide : ∀ p : Fin 2, IntOp.muli 4#32 (BitVec.ofNat 32 p.val) = BitVec.ofNat 32 (4 * p.val)) p
  rw [← hp]
  pointwise [val_main_v0, val_main_c, val_main_v1, val_main_v2, val_main_v3, val_main_v4, val_main_v5, val_main_v6, val_main_v7, val_main_v8, val_main_c_0, val_main_v9, val_main_v10]

theorem bit0_at (x1 : S3072x16384.Idx → BitVec 8) (a : Fin 3072) (p : Fin 2) (n : Fin 16384) :
    val_main_v16 (F := Ideal) x1 (ix3 a p n) = bitB (x1 (ix2 a n)) (4 * p.val + 0) := by
  refine Eq.trans ?_ (shift_bit (x1 (ix2 a n)) p 0)
  rw [← code_at]
  pointwise [val_main_v16, val_main_c_1, val_main_v11, val_main_v12, val_main_c_2, val_main_v13, val_main_v14, val_main_c_3, val_main_v15]

theorem bit1_at (x1 : S3072x16384.Idx → BitVec 8) (a : Fin 3072) (p : Fin 2) (n : Fin 16384) :
    val_main_v22 (F := Ideal) x1 (ix3 a p n) = bitB (x1 (ix2 a n)) (4 * p.val + 1) := by
  refine Eq.trans ?_ (shift_bit (x1 (ix2 a n)) p 1)
  rw [← code_at]
  pointwise [val_main_v22, val_main_c_4, val_main_v17, val_main_v18, val_main_c_5, val_main_v19, val_main_v20, val_main_c_6, val_main_v21]

theorem bit2_at (x1 : S3072x16384.Idx → BitVec 8) (a : Fin 3072) (p : Fin 2) (n : Fin 16384) :
    val_main_v28 (F := Ideal) x1 (ix3 a p n) = bitB (x1 (ix2 a n)) (4 * p.val + 2) := by
  refine Eq.trans ?_ (shift_bit (x1 (ix2 a n)) p 2)
  rw [← code_at]
  pointwise [val_main_v28, val_main_c_7, val_main_v23, val_main_v24, val_main_c_8, val_main_v25, val_main_v26, val_main_c_9, val_main_v27]

theorem bit3_at (x1 : S3072x16384.Idx → BitVec 8) (a : Fin 3072) (p : Fin 2) (n : Fin 16384) :
    val_main_v34 (F := Ideal) x1 (ix3 a p n) = bitB (x1 (ix2 a n)) (4 * p.val + 3) := by
  refine Eq.trans ?_ (shift_bit (x1 (ix2 a n)) p 3)
  rw [← code_at]
  pointwise [val_main_v34, val_main_c_10, val_main_v29, val_main_v30, val_main_c_11, val_main_v31, val_main_v32, val_main_c_12, val_main_v33]

/-- The NF4 value of a code. -/
theorem value_at (x1 : S3072x16384.Idx → BitVec 8) (a : Fin 3072) (p : Fin 2) (n : Fin 16384) :
    val_main_v50 (F := Ideal) x1 (ix3 a p n) = nfb (x1 (ix2 a n)) p.val := by
  pointwise [val_main_cst, val_main_cst_13, val_main_call0_v0, val_main_call0_v1, val_main_v36, val_main_cst_14, val_main_cst_15, val_main_call1_v0, val_main_call1_v1, val_main_v37, val_main_v38, val_main_cst_16, val_main_cst_17, val_main_call3_v0, val_main_call3_v1, val_main_v39, val_main_cst_18, val_main_cst_19, val_main_call4_v0, val_main_call4_v1, val_main_v40, val_main_v41, val_main_v42, val_main_cst_20, val_main_cst_21, val_main_call7_v0, val_main_call7_v1, val_main_v43, val_main_cst_22, val_main_cst_23, val_main_call8_v0, val_main_call8_v1, val_main_v44, val_main_v45, val_main_cst_24, val_main_cst_25, val_main_call10_v0, val_main_call10_v1, val_main_v46, val_main_cst_26, val_main_cst_27, val_main_call11_v0, val_main_call11_v1, val_main_v47, val_main_v48, val_main_v49, val_main_v50]
  erw [bit0_at x1 a p n, bit1_at x1 a p n, bit2_at x1 a p n, bit3_at x1 a p n]
  rfl

/-- The dequantized weight. -/
theorem weight_at (x1 : S3072x16384.Idx → BitVec 8) (x2 : S96x16384.Idx → EReal) (i : Fin 6144) (n : Fin 16384) :
    val_main_v55 (F := Ideal) x1 x2 (ix2 i n) = Wt x1 x2 i n := by
  pointwise [val_main_v55, val_main_v54, val_main_v53, val_main_v52, val_main_v35, val_main_v51]
  have hi := i.isLt
  have e1 : i.val / 64 * 32 + i.val % 64 / 2 = i.val / 2 := by omega
  have e2 : i.val % 64 % 2 = i.val % 2 := by omega
  refine congrArg (· * x2 (ix2 ⟨i.val / 64, by omega⟩ n)) ((value_at x1 _ _ n).trans ?_)
  exact congrArg₂ nfb (congrArg (fun z => x1 (ix2 z n)) (Fin.ext e1)) e2

end Cert.ReferenceIdeal.Read

end
-- ==== Proof.RefOut.lean ====
/- The reference read at an index: the masked low-rank activations and the result. -/
module

public import proofs.«01_k».proof.Proof.Gen.ReferenceIdeal.Read
public import proofs.«01_k».proof.Proof.RefW

@[expose] public section

set_option maxRecDepth 16384

noncomputable section

namespace Cert.ReferenceIdeal.Read

open Idealize.ShloMosaic Cert.ReferenceIdeal Cert.Target

/-- The masked activation of adapter `a`, rank column `r`. -/
theorem act_at (x0 : S12x768x6144.Idx → EReal) (x3 : S7x6144x16.Idx → EReal) (x5 : S12x768.Idx → BitVec 32) (b : Fin 12) (s : Fin 768) (a : Fin 7) (r : Fin 16) :
    val_main_v66 (F := Ideal) x0 x3 x5 (ix4 b s a r)
      = if BitVec.ofNat 32 a.val = x5 (ix2 b s) then ∑ i : Fin 6144, x0 (ix3 b s i) * x3 (ix3 a i r) else 0 := by
  pointwise [val_main_v57, val_main_v58, val_main_v59, val_main_v60, val_main_v61, val_main_v62, val_main_v63, val_main_v64, val_main_v65, val_main_cst_28, val_main_call15_v0, val_main_call15_v1, val_main_v66]
  unfold Scalar.select IntOp.cmpi
  by_cases h : BitVec.ofNat 32 a.val = x5 (ix2 b s)
  · simp [h]
  · rw [if_neg h, beq_eq_false_iff_ne.mpr (Ne.symm h)]
    rfl

/-- The reference's scale is the number two. -/
theorem two_at : Ideal.ofBits .f32 1073741824#32 = 2 := by
  rw [show (2 : EReal) = ((2 : ℝ) : EReal) by norm_cast]
  simp [Ideal.ofBits, Ideal.ieee, -EReal.coe_mul]; norm_num

/-- The reference's result. -/
theorem ref_at (x0 : S12x768x6144.Idx → EReal) (x1 : S3072x16384.Idx → BitVec 8) (x2 : S96x16384.Idx → EReal) (x3 : S7x6144x16.Idx → EReal)
    (x4 : S7x16x16384.Idx → EReal) (x5 : S12x768.Idx → BitVec 32) (R : Fin 9216) (n : Fin 16384) :
    val_main_v72 (F := Ideal) x0 x1 x2 x3 x4 x5 (ix2 R n)
      = (∑ i : Fin 6144, x0 (ix3 ⟨R.val / 768, by omega⟩ ⟨R.val % 768, by omega⟩ i) * val_main_v55 (F := Ideal) x1 x2 (ix2 i n))
        + 2 * ∑ a : Fin 7, ∑ r : Fin 16, val_main_v66 (F := Ideal) x0 x3 x5 (ix4 ⟨R.val / 768, by omega⟩ ⟨R.val % 768, by omega⟩ a r) * x4 (ix3 a r n) := by
  pointwise [val_main_v56, val_main_v67, val_main_cst_29, val_main_v68, val_main_v69, val_main_v70, val_main_v71, val_main_v72]
  rw [two_at]

end Cert.ReferenceIdeal.Read

end
-- ==== Proof.Equal.lean ====
/- The algebra between the two programs: the two stacked copies of the low-rank term are twice one, so the kernel's result is the reference's. -/
module

public import proofs.«01_k».proof.Proof.KI.Host
public import proofs.«01_k».proof.Proof.RefOut

@[expose] public section

set_option maxRecDepth 16384

noncomputable section

namespace Cert.Proof

open Idealize.ShloMosaic Cert.Target
open Cert.KernelIdeal (S12x768x6144 S3072x16384 S96x16384 S7x6144x16 S7x16x16384 S12x768 S9216x6144 S6144x256 S112x16384 S9216x1)

/-- One copy of the stacked columns: seven adapters of sixteen columns, then sixteen columns of zeros. -/
theorem sum_copy (f : Fin 128 → EReal) (g : Fin 7 → Fin 16 → EReal)
    (h : ∀ (k : Fin 128) (hk : k.val < 112), f k = g ⟨k.val / 16, by omega⟩ ⟨k.val % 16, by omega⟩) (h0 : ∀ k : Fin 128, ¬ k.val < 112 → f k = 0) :
    ∑ k : Fin 128, f k = ∑ a : Fin 7, ∑ r : Fin 16, g a r := by
  rw [Fin.sum_univ_add (a := 112) (b := 16) f, Finset.sum_eq_zero (s := Finset.univ) (f := fun i : Fin 16 => f (Fin.natAdd 112 i))
    (fun i _ => h0 _ (by simp)), add_zero, Fin.sum_univ_tiles 7 16 rfl]
  refine Finset.sum_congr rfl fun a _ => Finset.sum_congr rfl fun r _ => ?_
  rw [h _ (by simp only [Fin.val_castAdd]; omega)]
  refine congrArg₂ g (Fin.ext ?_) (Fin.ext ?_)
  · show (a.val * 16 + r.val) / 16 = a.val
    omega
  · show (a.val * 16 + r.val) % 16 = r.val
    omega

/-- Two copies of the stacked columns sum to twice the sum over the adapters and their columns. -/
theorem sum_stack (f : Fin 256 → EReal) (g : Fin 7 → Fin 16 → EReal)
    (h : ∀ (k : Fin 256) (hk : k.val % 128 < 112), f k = g ⟨k.val % 128 / 16, by omega⟩ ⟨k.val % 16, by omega⟩)
    (h0 : ∀ k : Fin 256, ¬ k.val % 128 < 112 → f k = 0) :
    ∑ k : Fin 256, f k = 2 * ∑ a : Fin 7, ∑ r : Fin 16, g a r := by
  rw [Fin.sum_univ_tiles 2 128 rfl, Fin.sum_univ_two]
  have e (j : Fin 2) (hb : ∀ t : Fin 128, j.val * 128 + t.val < 256) : ∑ t : Fin 128, f ⟨j.val * 128 + t.val, hb t⟩ = ∑ a : Fin 7, ∑ r : Fin 16, g a r := by
    refine sum_copy _ g (fun k hk => ?_) (fun k hk => h0 _ ?_)
    · rw [h _ (by show (j.val * 128 + k.val) % 128 < 112; omega)]
      refine congrArg₂ g (Fin.ext ?_) (Fin.ext ?_)
      · show (j.val * 128 + k.val) % 128 / 16 = k.val / 16
        omega
      · show (j.val * 128 + k.val) % 16 = k.val % 16
        omega
    · show ¬ (j.val * 128 + k.val) % 128 < 112
      omega
  rw [e 0, e 1, ← one_add_one_eq_two, EReal.right_distrib_of_nonneg zero_le_one zero_le_one, one_mul]

/-- The kernel's result, from arrays that hold the arguments rearranged, is the reference's. -/
theorem out_eq (x0 : S12x768x6144.Idx → EReal) (x1 : S3072x16384.Idx → BitVec 8) (x2 : S96x16384.Idx → EReal) (x3 : S7x6144x16.Idx → EReal)
    (x4 : S7x16x16384.Idx → EReal) (x5 : S12x768.Idx → BitVec 32)
    (X : S9216x6144.Idx → EReal) (A : S6144x256.Idx → EReal) (B : S112x16384.Idx → EReal) (D : S9216x1.Idx → BitVec 32)
    (hX : ∀ (R : Fin 9216) (i : Fin 6144), X (ix2 R i) = x0 (ix3 ⟨R.val / 768, by omega⟩ ⟨R.val % 768, by omega⟩ i))
    (hA : ∀ (i : Fin 6144) (k : Fin 256) (hk : k.val % 128 < 112), A (ix2 i k) = x3 (ix3 ⟨k.val % 128 / 16, by omega⟩ i ⟨k.val % 16, by omega⟩))
    (hB : ∀ (k : Fin 112) (n : Fin 16384), B (ix2 k n) = x4 (ix3 ⟨k.val / 16, by omega⟩ ⟨k.val % 16, by omega⟩ n))
    (hD : ∀ R : Fin 9216, D (ix2 R 0) = x5 (ix2 ⟨R.val / 768, by omega⟩ ⟨R.val % 768, by omega⟩))
    (R : Fin 9216) (n : Fin 16384) :
    Out X x1 x2 A B D R n = Cert.ReferenceIdeal.Read.val_main_v72 (F := Ideal) x0 x1 x2 x3 x4 x5 (ix2 R n) := by
  rw [Cert.ReferenceIdeal.Read.ref_at]
  unfold Out
  congr 1
  · refine Finset.sum_congr rfl fun i _ => ?_
    rw [hX, Cert.ReferenceIdeal.Read.weight_at]
  · refine sum_stack _ (fun a r => Cert.ReferenceIdeal.Read.val_main_v66 (F := Ideal) x0 x3 x5 (ix4 ⟨R.val / 768, by omega⟩ ⟨R.val % 768, by omega⟩ a r)
      * x4 (ix3 a r n)) (fun k hk => ?_) (fun k hk => ?_)
    · rw [Cert.ReferenceIdeal.Read.act_at]
      unfold Hv Wb
      rw [dif_pos hk, hB, hD, Finset.sum_congr rfl fun i _ => by rw [hX, hA i k hk]]
      refine congrArg (fun z => _ * x4 (ix3 _ z n)) (Fin.ext ?_)
      show k.val % 128 % 16 = k.val % 16
      omega
    · unfold Wb
      rw [dif_neg hk, mul_zero]

end Cert.Proof

end
-- ==== Proof.Value.lean ====
/- The value claim: from memories that agree on the arguments, the kernel's ideal reading and the reference end with equal results. -/
module

public import proofs.«01_k».proof.Defs
public import proofs.«01_k».proof.Proof.Equal

@[expose] public section

noncomputable section

namespace Cert.Proof

open Idealize.ShloMosaic Idealize.SL.Sem

open Cert.KernelIdeal Cert.KernelIdeal.Gen Cert.KernelIdeal.Body in
/-- What the kernel leaves in its result array is the reference's function of the arguments. -/
theorem kernel_value (m : (ℓ : Loc Cert.KernelIdeal.nD Cert.KernelIdeal.τ Cert.KernelIdeal.sig) → Buf (Elt Ideal) ℓ) (c : Dev Cert.KernelIdeal.nD) (R : Fin 9216) (n : Fin 16384) :
    kO m c R n = Cert.ReferenceIdeal.Read.val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (ix2 R n) := by
  have h := out_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (V m c main_v6) (V m c main_v3) (V m c main_v4) (V m c main_v5) (host_x m c) (host_a m c) (host_b m c) (host_ids m c) R n
  rw [← h]
  unfold kO
  rw [V_main_arg1, V_main_arg2]

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.ReferenceIdeal.Read.val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Body.run_main_quiescent g (Cert.KernelIdeal.Body.track m))
    refine ⟨?_, Cert.KernelIdeal.Body.args_kept (Cert.KernelIdeal.Body.track m) r h.1 c⟩
    refine funext fun i => ?_
    have e : i = ix2 (i 0) (i 1) := eq_ix2 i
    rw [e]
    exact (Cert.KernelIdeal.Body.result_eq m r h.1 c (i 0) (i 1)).trans (kernel_value m c (i 0) (i 1))
  · refine (θ_run Cert.ReferenceIdeal.defs _ _).mono (fun r h c => ⟨?_, (h c).2⟩) (Cert.ReferenceIdeal.Value.run (F := Ideal) m' g')
    obtain ⟨h0, h1, h2, h3, h4, h5⟩ := hargs c
    rw [(h c).1, Cert.ReferenceIdeal.Read.val_main_v72_eq, h0, h1, h2, h3, h4, h5]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
